-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_embeddings [hPre_finite_embeddings : Cert.Pre_finite_embeddings.Facts] (m : (ℓ : Loc Cert.KernelIdeal.nD Cert.KernelIdeal.τ Cert.KernelIdeal.sig) → Buf (Elt Ideal) ℓ) : Prop :=
  ∀ c : Dev Cert.KernelIdeal.nD,
    (Cert.Pre_finite_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_embeddings [hPre_finite_embeddings : Cert.Pre_finite_embeddings.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_embeddings.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_embeddings [hKernelIdeal : Cert.KernelIdeal.Facts] [hPre_finite_embeddings : Cert.Pre_finite_embeddings.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_embeddings m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_embeddings [hReferenceIdeal : Cert.ReferenceIdeal.Facts] [hPre_finite_embeddings : Cert.Pre_finite_embeddings.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_embeddings m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_embeddings [hKernelIdeal : Cert.KernelIdeal.Facts] [hReferenceIdeal : Cert.ReferenceIdeal.Facts] [hPre_finite_embeddings : Cert.Pre_finite_embeddings.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_embeddings m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_embeddings : Cert.Pre_finite_embeddings.Facts),
    quiescent_Kernel (hKernel := hKernel)
    ∧ quiescent_KernelIdeal (hKernelIdeal := hKernelIdeal)
    ∧ quiescent_KernelIdeal_pre_finite_embeddings (hKernelIdeal := hKernelIdeal) (hPre_finite_embeddings := hPre_finite_embeddings)
    ∧ quiescent_ReferenceIdeal (hReferenceIdeal := hReferenceIdeal)
    ∧ quiescent_ReferenceIdeal_pre_finite_embeddings (hReferenceIdeal := hReferenceIdeal) (hPre_finite_embeddings := hPre_finite_embeddings)
    ∧ preserves_Kernel_KernelIdeal
    ∧ algebraic_KernelIdeal_ReferenceIdeal_pre_finite_embeddings (hKernelIdeal := hKernelIdeal) (hReferenceIdeal := hReferenceIdeal) (hPre_finite_embeddings := hPre_finite_embeddings)
-- ==== Pre_finite_embeddings.lean ====
abbrev S8x512x2048 : Shape := ⟨3, ![8, 512, 2048]⟩
abbrev S8x3x2048 : Shape := ⟨3, ![8, 3, 2048]⟩
abbrev S_ : Shape := ⟨0, ![]⟩

class Facts : Prop where
  bcast_S_S8x512x2048 : S_.BroadcastsInDim S8x512x2048 (![] : Fin 0 → Fin S8x512x2048.rank)

variable [Facts]

def fn {F : FTy → Type} [FloatOps F] (main_arg0 : FVec F S8x512x2048 .f32) (main_arg1 : FVec F S8x512x2048 .f32) (main_arg2 : FVec F S8x3x2048 .f32) (main_arg3 : FVec F S8x3x2048 .f32) : IVec S8x512x2048 1 :=
  let main_cst : FVec F S_ .f32 := constant S_ .f32 0xFF800000#32
  let main_v0 : FVec F S8x512x2048 .f32 := broadcastInDim S8x512x2048 ![] bcast_S_S8x512x2048 main_cst
  let main_v1 : IVec S8x512x2048 1 := cmpf .ogt main_arg0 main_v0
  let main_cst_0 : FVec F S_ .f32 := constant S_ .f32 0x7F800000#32
  let main_v2 : FVec F S8x512x2048 .f32 := broadcastInDim S8x512x2048 ![] bcast_S_S8x512x2048 main_cst_0
  let main_v3 : IVec S8x512x2048 1 := cmpf .olt main_arg0 main_v2
  let main_v4 : IVec S8x512x2048 1 := andi main_v1 main_v3
  let main_cst_1 : FVec F S_ .f32 := constant S_ .f32 0xFF800000#32
  let main_v5 : FVec F S8x512x2048 .f32 := broadcastInDim S8x512x2048 ![] bcast_S_S8x512x2048 main_cst_1
  let main_v6 : IVec S8x512x2048 1 := cmpf .ogt main_arg1 main_v5
  let main_v7 : IVec S8x512x2048 1 := andi main_v4 main_v6
  let main_cst_2 : FVec F S_ .f32 := constant S_ .f32 0x7F800000#32
  let main_v8 : FVec F S8x512x2048 .f32 := broadcastInDim S8x512x2048 ![] bcast_S_S8x512x2048 main_cst_2
  let main_v9 : IVec S8x512x2048 1 := cmpf .olt main_arg1 main_v8
  let main_v10 : IVec S8x512x2048 1 := andi main_v7 main_v9
  main_v10
-- ==== Kernel.lean ====
abbrev S8x512x2048 : Shape := ⟨3, ![8, 512, 2048]⟩
abbrev S8x3x2048 : Shape := ⟨3, ![8, 3, 2048]⟩
abbrev S8x2048x512 : Shape := ⟨3, ![8, 2048, 512]⟩
abbrev S8x2048x3 : Shape := ⟨3, ![8, 2048, 3]⟩
abbrev S8x512x3 : Shape := ⟨3, ![8, 512, 3]⟩
abbrev S8x503x3 : Shape := ⟨3, ![8, 503, 3]⟩
abbrev S8x3x503 : Shape := ⟨3, ![8, 3, 503]⟩
abbrev S1x2048x512 : Shape := ⟨3, ![1, 2048, 512]⟩
abbrev S1x2048x3 : Shape := ⟨3, ![1, 2048, 3]⟩
abbrev S1x512x3 : Shape := ⟨3, ![1, 512, 3]⟩
abbrev S2048x2048 : Shape := ⟨2, ![2048, 2048]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S1x2048 : Shape := ⟨2, ![1, 2048]⟩
abbrev S1x128x512 : Shape := ⟨3, ![1, 128, 512]⟩
abbrev S128x512 : Shape := ⟨2, ![128, 512]⟩
abbrev S128x2048 : Shape := ⟨2, ![128, 2048]⟩
abbrev S128 : Shape := ⟨1, ![128]⟩
abbrev S128x1 : Shape := ⟨2, ![128, 1]⟩
abbrev S2048x3 : Shape := ⟨2, ![2048, 3]⟩
abbrev S128x3 : Shape := ⟨2, ![128, 3]⟩
abbrev S1408x512 : Shape := ⟨2, ![1408, 512]⟩
abbrev S1408 : Shape := ⟨1, ![1408]⟩
abbrev S1408x1 : Shape := ⟨2, ![1408, 1]⟩
abbrev S1x1408 : Shape := ⟨2, ![1, 1408]⟩
abbrev S1408x3 : Shape := ⟨2, ![1408, 3]⟩
abbrev S128x1408 : Shape := ⟨2, ![128, 1408]⟩
abbrev S512x1408 : Shape := ⟨2, ![512, 1408]⟩
abbrev S512x3 : Shape := ⟨2, ![512, 3]⟩

abbrev nBuf : Space → Nat
  | .hbm => 14
  | .vmem => 14
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x3x2048, .f32⟩
  | .hbm, ⟨3, _⟩ => ⟨S8x3x2048, .f32⟩
  | .hbm, ⟨4, _⟩ => ⟨S8x2048x512, .f32⟩
  | .hbm, ⟨5, _⟩ => ⟨S8x2048x512, .f32⟩
  | .hbm, ⟨6, _⟩ => ⟨S8x2048x3, .f32⟩
  | .hbm, ⟨7, _⟩ => ⟨S8x2048x3, .f32⟩
  | .hbm, ⟨8, _⟩ => ⟨S8x512x3, .f32⟩
  | .hbm, ⟨9, _⟩ => ⟨S8x512x3, .f32⟩
  | .hbm, ⟨10, _⟩ => ⟨S8x503x3, .f32⟩
  | .hbm, ⟨11, _⟩ => ⟨S8x3x503, .f32⟩
  | .hbm, ⟨12, _⟩ => ⟨S8x503x3, .f32⟩
  | .hbm, ⟨13, _⟩ => ⟨S8x3x503, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x3, .f32⟩
  | .local _ .vmem, ⟨5, _⟩ => ⟨S1x2048x3, .f32⟩
  | .local _ .vmem, ⟨6, _⟩ => ⟨S1x2048x3, .f32⟩
  | .local _ .vmem, ⟨7, _⟩ => ⟨S1x2048x3, .f32⟩
  | .local _ .vmem, ⟨8, _⟩ => ⟨S1x512x3, .f32⟩
  | .local _ .vmem, ⟨9, _⟩ => ⟨S1x512x3, .f32⟩
  | .local _ .vmem, ⟨10, _⟩ => ⟨S1x512x3, .f32⟩
  | .local _ .vmem, ⟨11, _⟩ => ⟨S1x512x3, .f32⟩
  | .local _ .vmem, ⟨12, _⟩ => ⟨S2048x2048, .f32⟩
  | .local _ .vmem, ⟨13, _⟩ => ⟨S2048x128, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4_0 : Ref sig .tc := ⟨.hbm, 8, rfl⟩
abbrev main_call0_v4_1 : Ref sig .tc := ⟨.hbm, 9, rfl⟩
abbrev main_call0_v5 : Ref sig .tc := ⟨.hbm, 10, rfl⟩
abbrev main_v0_0 : Ref sig .tc := ⟨.hbm, 11, rfl⟩
abbrev main_call0_v7 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_off1 (k0_t1 : Fin k0_t1_loop.trips) : Fin 3 → Nat :=
  let c0_69 : Index := 0#32
  let c0_i32 : BitVec 32 := 0#32
  let c1_i32 : BitVec 32 := 1#32
  let arg9 : BitVec 32 := Scf.iv c0_i32 c1_i32 k0_t1
  let c128_i32 : BitVec 32 := 128#32
  let v67 : BitVec 32 := Scalar.muli arg9 c128_i32
  let v68 : Index := Scalar.indexCast v67
  let c0_70 : Index := 0#32
  ![0, v68.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v67 : BitVec 32 := Scalar.muli arg9 c128_i32
  let v81 : Index := Scalar.indexCast v67
  let c0_74 : Index := 0#32
  ![v81.toNat, 0]
@[reducible] def k0_t2_loop : Scf.Loop 32 :=
  let c0_i32_6 : BitVec 32 := 0#32
  let c16_i32_7 : BitVec 32 := 16#32
  let v11 : BitVec 32 := Scalar.addi c0_i32_6 c16_i32_7
  let c1_i32_8 : BitVec 32 := 1#32
  ⟨c0_i32_6, v11, c1_i32_8⟩
def k0_off3 (k0_t2 : Fin k0_t2_loop.trips) : Fin 2 → Nat :=
  let c0_i32_6 : BitVec 32 := 0#32
  let c1_i32_8 : BitVec 32 := 1#32
  let arg9 : BitVec 32 := Scf.iv c0_i32_6 c1_i32_8 k0_t2
  let c128_i32 : BitVec 32 := 128#32
  let v67 : BitVec 32 := Scalar.muli arg9 c128_i32
  let v68 : Index := Scalar.indexCast v67
  let c0_69 : Index := 0#32
  ![v68.toNat, 0]
@[reducible] def k0_t3_loop : Scf.Loop 32 :=
  let c0_i32_10 : BitVec 32 := 0#32
  let c16_i32_11 : BitVec 32 := 16#32
  let v13 : BitVec 32 := Scalar.addi c0_i32_10 c16_i32_11
  let c1_i32_12 : BitVec 32 := 1#32
  ⟨c0_i32_10, v13, c1_i32_12⟩
def k0_off4 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let c128_i32 : BitVec 32 := 128#32
  let v67 : BitVec 32 := Scalar.muli arg9 c128_i32
  let v68 : Index := Scalar.indexCast v67
  let c0_69 : Index := 0#32
  ![v68.toNat, 0]
def k0_off5 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let c128_i32_71 : BitVec 32 := 128#32
  let v77 : BitVec 32 := Scalar.muli arg9 c128_i32_71
  let v78 : Index := Scalar.indexCast v77
  let c0_72 : Index := 0#32
  ![v78.toNat, 0]
@[reducible] def k0_t4_loop : Scf.Loop 32 :=
  let c0_i32_17 : BitVec 32 := 0#32
  let c16_i32_18 : BitVec 32 := 16#32
  let v20 : BitVec 32 := Scalar.addi c0_i32_17 c16_i32_18
  let c1_i32_19 : BitVec 32 := 1#32
  ⟨c0_i32_17, v20, c1_i32_19⟩
def k0_off6 (k0_t4 : Fin k0_t4_loop.trips) : Fin 2 → Nat :=
  let c0_i32_17 : BitVec 32 := 0#32
  let c1_i32_19 : BitVec 32 := 1#32
  let arg9 : BitVec 32 := Scf.iv c0_i32_17 c1_i32_19 k0_t4
  let c128_i32 : BitVec 32 := 128#32
  let v67 : BitVec 32 := Scalar.muli arg9 c128_i32
  let v68 : Index := Scalar.indexCast v67
  let c6_69 : Index := 6#32
  ![v68.toNat, 6]
def k0_off7 (k0_t4 : Fin k0_t4_loop.trips) : Fin 2 → Nat :=
  let c0_i32_17 : BitVec 32 := 0#32
  let c1_i32_19 : BitVec 32 := 1#32
  let arg9 : BitVec 32 := Scf.iv c0_i32_17 c1_i32_19 k0_t4
  let c128_i32 : BitVec 32 := 128#32
  let v67 : BitVec 32 := Scalar.muli arg9 c128_i32
  let v87 : Index := Scalar.indexCast v67
  let c2_71 : Index := 2#32
  ![v87.toNat, 2]
@[reducible] def k0_t5_loop : Scf.Loop 32 :=
  let c0_i32_25 : BitVec 32 := 0#32
  let c11_i32 : BitVec 32 := 11#32
  let v25 : BitVec 32 := Scalar.addi c0_i32_25 c11_i32
  let c1_i32_26 : BitVec 32 := 1#32
  ⟨c0_i32_25, v25, c1_i32_26⟩
def k0_off8 (k0_t5 : Fin k0_t5_loop.trips) : Fin 2 → Nat :=
  let c0_i32_25 : BitVec 32 := 0#32
  let c1_i32_26 : BitVec 32 := 1#32
  let arg9 : BitVec 32 := Scf.iv c0_i32_25 c1_i32_26 k0_t5
  let c128_i32 : BitVec 32 := 128#32
  let v67 : BitVec 32 := Scalar.muli arg9 c128_i32
  let v80 : Index := Scalar.indexCast v67
  let c512_70 : Index := 512#32
  ![v80.toNat, 512]
def k0_off9 (k0_t5 : Fin k0_t5_loop.trips) : Fin 2 → Nat :=
  let c0_i32_25 : BitVec 32 := 0#32
  let c1_i32_26 : BitVec 32 := 1#32
  let arg9 : BitVec 32 := Scf.iv c0_i32_25 c1_i32_26 k0_t5
  let c128_i32 : BitVec 32 := 128#32
  let v67 : BitVec 32 := Scalar.muli arg9 c128_i32
  let v85 : Index := Scalar.indexCast v67
  let c8_72 : Index := 8#32
  ![v85.toNat, 8]
@[reducible] def k0_t6_loop : Scf.Loop 32 :=
  let c0_i32_28 : BitVec 32 := 0#32
  let c16_i32_29 : BitVec 32 := 16#32
  let v26 : BitVec 32 := Scalar.addi c0_i32_28 c16_i32_29
  let c1_i32_30 : BitVec 32 := 1#32
  ⟨c0_i32_28, v26, c1_i32_30⟩
def k0_off10 (k0_t6 : Fin k0_t6_loop.trips) : Fin 2 → Nat :=
  let c0_i32_28 : BitVec 32 := 0#32
  let c1_i32_30 : BitVec 32 := 1#32
  let arg9 : BitVec 32 := Scf.iv c0_i32_28 c1_i32_30 k0_t6
  let c128_i32 : BitVec 32 := 128#32
  let v67 : BitVec 32 := Scalar.muli arg9 c128_i32
  let v68 : Index := Scalar.indexCast v67
  let c0_69 : Index := 0#32
  ![v68.toNat, 0]
def k0_off11 (k0_t6 : Fin k0_t6_loop.trips) : Fin 2 → Nat :=
  let c0_i32_28 : BitVec 32 := 0#32
  let c1_i32_30 : BitVec 32 := 1#32
  let arg9 : BitVec 32 := Scf.iv c0_i32_28 c1_i32_30 k0_t6
  let c128_i32 : BitVec 32 := 128#32
  let v67 : BitVec 32 := Scalar.muli arg9 c128_i32
  let v87 : Index := Scalar.indexCast v67
  let c2_71 : Index := 2#32
  ![v87.toNat, 2]
@[reducible] def k0_t7_loop : Scf.Loop 32 :=
  let c0_i32_40 : BitVec 32 := 0#32
  let c11_i32_41 : BitVec 32 := 11#32
  let v33 : BitVec 32 := Scalar.addi c0_i32_40 c11_i32_41
  let c1_i32_42 : BitVec 32 := 1#32
  ⟨c0_i32_40, v33, c1_i32_42⟩
def k0_off12 (k0_t7 : Fin k0_t7_loop.trips) : Fin 2 → Nat :=
  let c0_i32_40 : BitVec 32 := 0#32
  let c1_i32_42 : BitVec 32 := 1#32
  let arg9 : BitVec 32 := Scf.iv c0_i32_40 c1_i32_42 k0_t7
  let c128_i32 : BitVec 32 := 128#32
  let v67 : BitVec 32 := Scalar.muli arg9 c128_i32
  let v80 : Index := Scalar.indexCast v67
  let c0_70 : Index := 0#32
  ![v80.toNat, 0]
def k0_off13 (k0_t7 : Fin k0_t7_loop.trips) : Fin 2 → Nat :=
  let c0_i32_40 : BitVec 32 := 0#32
  let c1_i32_42 : BitVec 32 := 1#32
  let arg9 : BitVec 32 := Scf.iv c0_i32_40 c1_i32_42 k0_t7
  let c128_i32 : BitVec 32 := 128#32
  let v67 : BitVec 32 := Scalar.muli arg9 c128_i32
  let v85 : Index := Scalar.indexCast v67
  let c12_72 : Index := 12#32
  ![v85.toNat, 12]
@[reducible] def k0_t8_loop : Scf.Loop 32 :=
  let c0_i32_47 : BitVec 32 := 0#32
  let c11_i32_48 : BitVec 32 := 11#32
  let v40 : BitVec 32 := Scalar.addi c0_i32_47 c11_i32_48
  let c1_i32_49 : BitVec 32 := 1#32
  ⟨c0_i32_47, v40, c1_i32_49⟩
def k0_off14 (k0_t8 : Fin k0_t8_loop.trips) : Fin 2 → Nat :=
  let c0_i32_47 : BitVec 32 := 0#32
  let c1_i32_49 : BitVec 32 := 1#32
  let arg9 : BitVec 32 := Scf.iv c0_i32_47 c1_i32_49 k0_t8
  let c128_i32 : BitVec 32 := 128#32
  let v67 : BitVec 32 := Scalar.muli arg9 c128_i32
  let v68 : Index := Scalar.indexCast v67
  let c0_69 : Index := 0#32
  ![v68.toNat, 0]
def k0_off15 (k0_t8 : Fin k0_t8_loop.trips) : Fin 2 → Nat :=
  let c0_i32_47 : BitVec 32 := 0#32
  let c1_i32_49 : BitVec 32 := 1#32
  let arg9 : BitVec 32 := Scf.iv c0_i32_47 c1_i32_49 k0_t8
  let c128_i32 : BitVec 32 := 128#32
  let v67 : BitVec 32 := Scalar.muli arg9 c128_i32
  let v110 : Index := Scalar.indexCast v67
  let c3_80 : Index := 3#32
  ![v110.toNat, 3]
def k0_off16 (k0_t8 : Fin k0_t8_loop.trips) : Fin 2 → Nat :=
  let c0_i32_47 : BitVec 32 := 0#32
  let c1_i32_49 : BitVec 32 := 1#32
  let arg9 : BitVec 32 := Scf.iv c0_i32_47 c1_i32_49 k0_t8
  let c128_i32 : BitVec 32 := 128#32
  let v67 : BitVec 32 := Scalar.muli arg9 c128_i32
  let v121 : Index := Scalar.indexCast v67
  let c1_83 : Index := 1#32
  ![v121.toNat, 1]
@[reducible] def k0_t9_loop : Scf.Loop 32 :=
  let c0_i32_52 : BitVec 32 := 0#32
  let c11_i32_53 : BitVec 32 := 11#32
  let v43 : BitVec 32 := Scalar.addi c0_i32_52 c11_i32_53
  let c1_i32_54 : BitVec 32 := 1#32
  ⟨c0_i32_52, v43, c1_i32_54⟩
def k0_off17 (k0_t9 : Fin k0_t9_loop.trips) : Fin 2 → Nat :=
  let c0_i32_52 : BitVec 32 := 0#32
  let c1_i32_54 : BitVec 32 := 1#32
  let arg9 : BitVec 32 := Scf.iv c0_i32_52 c1_i32_54 k0_t9
  let c128_i32 : BitVec 32 := 128#32
  let v67 : BitVec 32 := Scalar.muli arg9 c128_i32
  let v68 : Index := Scalar.indexCast v67
  let c1_69 : Index := 1#32
  ![v68.toNat, 1]
def k0_off18 (k0_t9 : Fin k0_t9_loop.trips) : Fin 2 → Nat :=
  let c0_i32_52 : BitVec 32 := 0#32
  let c1_i32_54 : BitVec 32 := 1#32
  let arg9 : BitVec 32 := Scf.iv c0_i32_52 c1_i32_54 k0_t9
  let c128_i32 : BitVec 32 := 128#32
  let v67 : BitVec 32 := Scalar.muli arg9 c128_i32
  let v87 : Index := Scalar.indexCast v67
  let c2_71 : Index := 2#32
  ![v87.toNat, 2]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x512x2048 : Shape := ⟨3, ![8, 512, 2048]⟩
abbrev S8x3x2048 : Shape := ⟨3, ![8, 3, 2048]⟩
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x1290 : Shape := ⟨2, ![8, 1290]⟩
abbrev S8x2048x3 : Shape := ⟨3, ![8, 2048, 3]⟩
abbrev S8x1290x1 : Shape := ⟨3, ![8, 1290, 1]⟩
abbrev S1 : Shape := ⟨1, ![1]⟩
abbrev S1x1x1 : Shape := ⟨3, ![1, 1, 1]⟩
abbrev S8x1290x3 : Shape := ⟨3, ![8, 1290, 3]⟩
abbrev S8x3x1290 : Shape := ⟨3, ![8, 3, 1290]⟩
abbrev S8x1290x512 : Shape := ⟨3, ![8, 1290, 512]⟩
abbrev S8x512x1290 : Shape := ⟨3, ![8, 512, 1290]⟩
abbrev S8x1290x1290 : Shape := ⟨3, ![8, 1290, 1290]⟩
abbrev S8x1x1290 : Shape := ⟨3, ![8, 1, 1290]⟩
abbrev S8x1290x1x3 : Shape := ⟨4, ![8, 1290, 1, 3]⟩
abbrev S8x503 : Shape := ⟨2, ![8, 503]⟩
abbrev S8x503x1x1 : Shape := ⟨4, ![8, 503, 1, 1]⟩
abbrev S8x503x1 : Shape := ⟨3, ![8, 503, 1]⟩
abbrev S8x503x1x3 : Shape := ⟨4, ![8, 503, 1, 3]⟩
abbrev S8x503x3x1 : Shape := ⟨4, ![8, 503, 3, 1]⟩
abbrev S8x503x3 : Shape := ⟨3, ![8, 503, 3]⟩
abbrev S8x3x503 : Shape := ⟨3, ![8, 3, 503]⟩

abbrev nBuf : Space → Nat
  | .hbm => 304
  | .vmem => 0
  | .smem => 0
  | _ => 0

abbrev hbmTy0_0 (i : Nat) : BufTy := match i % 128 with
  | 0 => ⟨S8x512x2048, .f32⟩
  | 1 => ⟨S8x512x2048, .f32⟩
  | 2 => ⟨S8x3x2048, .f32⟩
  | 3 => ⟨S8x3x2048, .f32⟩
  | 4 => ⟨S8x2048x512, .f32⟩
  | 5 => ⟨S8x2048x2048, .f32⟩
  | 6 => ⟨S_, .f32⟩
  | 7 => ⟨S8x2048x2048, .f32⟩
  | 8 => ⟨S8x2048x2048, .f32⟩
  | 9 => ⟨S8x512x2048, .f32⟩
  | 10 => ⟨S_, .f32⟩
  | 11 => ⟨S8x2048, .f32⟩
  | 12 => ⟨S8x1x2048, .f32⟩
  | 13 => ⟨S8x2048x1, .f32⟩
  | 14 => ⟨S8x512x2048, .f32⟩
  | 15 => ⟨S_, .f32⟩
  | 16 => ⟨S8x2048, .f32⟩
  | 17 => ⟨S8x1x2048, .f32⟩
  | 18 => ⟨S8x2048x1, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S8x2048, .f32⟩
  | 25 => ⟨S_, .f32⟩
  | 26 => ⟨S8x2048, .f32⟩
  | 27 => ⟨S8x2048, .f32⟩
  | 28 => ⟨S8x2048x1, .f32⟩
  | 29 => ⟨S8x2048x2048, .f32⟩
  | 30 => ⟨S8x2048x2048, .f32⟩
  | 31 => ⟨S8x2048x2048, .f32⟩
  | 32 => ⟨S_, .f32⟩
  | 33 => ⟨S8x2048, .f32⟩
  | 34 => ⟨S8x2048x1, .f32⟩
  | 35 => ⟨S8x2048x2048, .f32⟩
  | 36 => ⟨S8x2048x2048, .f32⟩
  | 37 => ⟨S_, .f32⟩
  | 38 => ⟨S8x2048, .f32⟩
  | 39 => ⟨S8x1290, .f32⟩
  | 40 => ⟨S8x1290, .i32⟩
  | 41 => ⟨S8x2048x3, .f32⟩
  | 42 => ⟨S8x1290x1, .i32⟩
  | 43 => ⟨S_, .i32⟩
  | 44 => ⟨S8x1290x1, .i32⟩
  | 45 => ⟨S8x1290x1, .i1⟩
  | 46 => ⟨S_, .i32⟩
  | 47 => ⟨S8x1290x1, .i32⟩
  | 48 => ⟨S8x1290x1, .i32⟩
  | 49 => ⟨S8x1290x1, .i32⟩
  | 50 => ⟨S1, .i32⟩
  | 51 => ⟨S_, .i32⟩
  | 52 => ⟨S8x1290x1, .i32⟩
  | 53 => ⟨S8x1290x1, .i1⟩
  | 54 => ⟨S1x1x1, .i32⟩
  | 55 => ⟨S8x1290x1, .i32⟩
  | 56 => ⟨S8x1290x1, .i1⟩
  | 57 => ⟨S8x1290x1, .i1⟩
  | 58 => ⟨S_, .i1⟩
  | 59 => ⟨S8x1290, .i1⟩
  | 60 => ⟨S8x1290x3, .f32⟩
  | 61 => ⟨S8x1290x3, .i1⟩
  | 62 => ⟨S_, .f32⟩
  | 63 => ⟨S8x1290x3, .f32⟩
  | 64 => ⟨S8x1290x3, .f32⟩
  | 65 => ⟨S8x3x1290, .f32⟩
  | 66 => ⟨S8x2048x512, .f32⟩
  | 67 => ⟨S8x1290x1, .i32⟩
  | 68 => ⟨S_, .i32⟩
  | 69 => ⟨S8x1290x1, .i32⟩
  | 70 => ⟨S8x1290x1, .i1⟩
  | 71 => ⟨S_, .i32⟩
  | 72 => ⟨S8x1290x1, .i32⟩
  | 73 => ⟨S8x1290x1, .i32⟩
  | 74 => ⟨S8x1290x1, .i32⟩
  | 75 => ⟨S1, .i32⟩
  | 76 => ⟨S_, .i32⟩
  | 77 => ⟨S8x1290x1, .i32⟩
  | 78 => ⟨S8x1290x1, .i1⟩
  | 79 => ⟨S1x1x1, .i32⟩
  | 80 => ⟨S8x1290x1, .i32⟩
  | 81 => ⟨S8x1290x1, .i1⟩
  | 82 => ⟨S8x1290x1, .i1⟩
  | 83 => ⟨S_, .i1⟩
  | 84 => ⟨S8x1290, .i1⟩
  | 85 => ⟨S8x1290x512, .f32⟩
  | 86 => ⟨S8x1290x512, .i1⟩
  | 87 => ⟨S_, .f32⟩
  | 88 => ⟨S8x1290x512, .f32⟩
  | 89 => ⟨S8x1290x512, .f32⟩
  | 90 => ⟨S8x512x1290, .f32⟩
  | 91 => ⟨S_, .f32⟩
  | 92 => ⟨S8x2048, .f32⟩
  | 93 => ⟨S_, .f32⟩
  | 94 => ⟨S8x2048, .f32⟩
  | 95 => ⟨S8x2048, .f32⟩
  | 96 => ⟨S8x1x2048, .f32⟩
  | 97 => ⟨S8x2048x2048, .f32⟩
  | 98 => ⟨S8x2048x2048, .f32⟩
  | 99 => ⟨S8x2048x2048, .f32⟩
  | 100 => ⟨S_, .f32⟩
  | 101 => ⟨S8x2048, .f32⟩
  | 102 => ⟨S8x1x2048, .f32⟩
  | 103 => ⟨S8x2048x2048, .f32⟩
  | 104 => ⟨S8x2048x2048, .f32⟩
  | 105 => ⟨S_, .f32⟩
  | 106 => ⟨S8x2048, .f32⟩
  | 107 => ⟨S8x1290, .f32⟩
  | 108 => ⟨S8x1290, .i32⟩
  | 109 => ⟨S8x2048x3, .f32⟩
  | 110 => ⟨S8x1290x1, .i32⟩
  | 111 => ⟨S_, .i32⟩
  | 112 => ⟨S8x1290x1, .i32⟩
  | 113 => ⟨S8x1290x1, .i1⟩
  | 114 => ⟨S_, .i32⟩
  | 115 => ⟨S8x1290x1, .i32⟩
  | 116 => ⟨S8x1290x1, .i32⟩
  | 117 => ⟨S8x1290x1, .i32⟩
  | 118 => ⟨S1, .i32⟩
  | 119 => ⟨S_, .i32⟩
  | 120 => ⟨S8x1290x1, .i32⟩
  | 121 => ⟨S8x1290x1, .i1⟩
  | 122 => ⟨S1x1x1, .i32⟩
  | 123 => ⟨S8x1290x1, .i32⟩
  | 124 => ⟨S8x1290x1, .i1⟩
  | 125 => ⟨S8x1290x1, .i1⟩
  | 126 => ⟨S_, .i1⟩
  | 127 => ⟨S8x1290, .i1⟩
  | _ => ⟨S8x512x2048, .f32⟩

abbrev hbmTy0_1 (i : Nat) : BufTy := match i % 128 with
  | 0 => ⟨S8x1290x3, .f32⟩
  | 1 => ⟨S8x1290x3, .i1⟩
  | 2 => ⟨S_, .f32⟩
  | 3 => ⟨S8x1290x3, .f32⟩
  | 4 => ⟨S8x1290x3, .f32⟩
  | 5 => ⟨S8x3x1290, .f32⟩
  | 6 => ⟨S8x2048x512, .f32⟩
  | 7 => ⟨S8x1290x1, .i32⟩
  | 8 => ⟨S_, .i32⟩
  | 9 => ⟨S8x1290x1, .i32⟩
  | 10 => ⟨S8x1290x1, .i1⟩
  | 11 => ⟨S_, .i32⟩
  | 12 => ⟨S8x1290x1, .i32⟩
  | 13 => ⟨S8x1290x1, .i32⟩
  | 14 => ⟨S8x1290x1, .i32⟩
  | 15 => ⟨S1, .i32⟩
  | 16 => ⟨S_, .i32⟩
  | 17 => ⟨S8x1290x1, .i32⟩
  | 18 => ⟨S8x1290x1, .i1⟩
  | 19 => ⟨S1x1x1, .i32⟩
  | 20 => ⟨S8x1290x1, .i32⟩
  | 21 => ⟨S8x1290x1, .i1⟩
  | 22 => ⟨S8x1290x1, .i1⟩
  | 23 => ⟨S_, .i1⟩
  | 24 => ⟨S8x1290, .i1⟩
  | 25 => ⟨S8x1290x512, .f32⟩
  | 26 => ⟨S8x1290x512, .i1⟩
  | 27 => ⟨S_, .f32⟩
  | 28 => ⟨S8x1290x512, .f32⟩
  | 29 => ⟨S8x1290x512, .f32⟩
  | 30 => ⟨S8x512x1290, .f32⟩
  | 31 => ⟨S8x1290x512, .f32⟩
  | 32 => ⟨S8x1290x1290, .f32⟩
  | 33 => ⟨S_, .f32⟩
  | 34 => ⟨S8x1290x1290, .f32⟩
  | 35 => ⟨S8x1290x1290, .f32⟩
  | 36 => ⟨S8x512x1290, .f32⟩
  | 37 => ⟨S_, .f32⟩
  | 38 => ⟨S8x1290, .f32⟩
  | 39 => ⟨S8x1x1290, .f32⟩
  | 40 => ⟨S8x1290x1, .f32⟩
  | 41 => ⟨S8x512x1290, .f32⟩
  | 42 => ⟨S_, .f32⟩
  | 43 => ⟨S8x1290, .f32⟩
  | 44 => ⟨S8x1x1290, .f32⟩
  | 45 => ⟨S8x1290x1, .f32⟩
  | 46 => ⟨S8x1290x1290, .f32⟩
  | 47 => ⟨S8x1290x1290, .f32⟩
  | 48 => ⟨S8x1290x1290, .f32⟩
  | 49 => ⟨S8x1290x1290, .f32⟩
  | 50 => ⟨S_, .f32⟩
  | 51 => ⟨S8x1290, .f32⟩
  | 52 => ⟨S_, .f32⟩
  | 53 => ⟨S8x1290, .f32⟩
  | 54 => ⟨S8x1290, .f32⟩
  | 55 => ⟨S8x1290x1, .f32⟩
  | 56 => ⟨S8x1290x1290, .f32⟩
  | 57 => ⟨S8x1290x1290, .f32⟩
  | 58 => ⟨S8x1290x1290, .f32⟩
  | 59 => ⟨S_, .f32⟩
  | 60 => ⟨S8x1290, .f32⟩
  | 61 => ⟨S8x1290x1, .f32⟩
  | 62 => ⟨S8x1290x1290, .f32⟩
  | 63 => ⟨S8x1290x1290, .f32⟩
  | 64 => ⟨S8x1290x1, .f32⟩
  | 65 => ⟨S8x1290x1, .i32⟩
  | 66 => ⟨S8x1290x3, .f32⟩
  | 67 => ⟨S8x1290, .i32⟩
  | 68 => ⟨S8x1290x1, .i32⟩
  | 69 => ⟨S_, .i32⟩
  | 70 => ⟨S8x1290x1, .i32⟩
  | 71 => ⟨S8x1290x1, .i1⟩
  | 72 => ⟨S_, .i32⟩
  | 73 => ⟨S8x1290x1, .i32⟩
  | 74 => ⟨S8x1290x1, .i32⟩
  | 75 => ⟨S8x1290x1, .i32⟩
  | 76 => ⟨S1, .i32⟩
  | 77 => ⟨S_, .i32⟩
  | 78 => ⟨S8x1290x1, .i32⟩
  | 79 => ⟨S8x1290x1, .i1⟩
  | 80 => ⟨S1x1x1, .i32⟩
  | 81 => ⟨S8x1290x1, .i32⟩
  | 82 => ⟨S8x1290x1, .i1⟩
  | 83 => ⟨S8x1290x1, .i1⟩
  | 84 => ⟨S_, .i1⟩
  | 85 => ⟨S8x1290, .i1⟩
  | 86 => ⟨S8x1290x3, .f32⟩
  | 87 => ⟨S8x1290x3, .i1⟩
  | 88 => ⟨S_, .f32⟩
  | 89 => ⟨S8x1290x3, .f32⟩
  | 90 => ⟨S8x1290x3, .f32⟩
  | 91 => ⟨S8x1290x1x3, .f32⟩
  | 92 => ⟨S_, .f32⟩
  | 93 => ⟨S8x1290, .f32⟩
  | 94 => ⟨S8x1290x1, .f32⟩
  | 95 => ⟨S8x1290, .f32⟩
  | 96 => ⟨S8x503, .f32⟩
  | 97 => ⟨S8x503, .i32⟩
  | 98 => ⟨S8x503x1x1, .i32⟩
  | 99 => ⟨S_, .i32⟩
  | 100 => ⟨S8x503x1x1, .i32⟩
  | 101 => ⟨S8x503x1x1, .i1⟩
  | 102 => ⟨S_, .i32⟩
  | 103 => ⟨S8x503x1x1, .i32⟩
  | 104 => ⟨S8x503x1x1, .i32⟩
  | 105 => ⟨S8x503x1x1, .i32⟩
  | 106 => ⟨S8x503x1, .i32⟩
  | 107 => ⟨S1, .i32⟩
  | 108 => ⟨S_, .i32⟩
  | 109 => ⟨S8x503x1, .i32⟩
  | 110 => ⟨S8x503x1, .i1⟩
  | 111 => ⟨S1x1x1, .i32⟩
  | 112 => ⟨S8x503x1, .i32⟩
  | 113 => ⟨S8x503x1, .i1⟩
  | 114 => ⟨S8x503x1, .i1⟩
  | 115 => ⟨S_, .i1⟩
  | 116 => ⟨S8x503, .i1⟩
  | 117 => ⟨S8x503x1x3, .f32⟩
  | 118 => ⟨S8x503x1x3, .i1⟩
  | 119 => ⟨S_, .f32⟩
  | 120 => ⟨S8x503x1x3, .f32⟩
  | 121 => ⟨S8x503x1x3, .f32⟩
  | 122 => ⟨S8x503x3x1, .f32⟩
  | 123 => ⟨S8x1290x1, .f32⟩
  | 124 => ⟨S8x503x1, .i32⟩
  | 125 => ⟨S_, .i32⟩
  | 126 => ⟨S8x503x1, .i32⟩
  | 127 => ⟨S8x503x1, .i1⟩
  | _ => ⟨S8x512x2048, .f32⟩

abbrev hbmTy0_2 (i : Nat) : BufTy := match i % 128 with
  | 0 => ⟨S_, .i32⟩
  | 1 => ⟨S8x503x1, .i32⟩
  | 2 => ⟨S8x503x1, .i32⟩
  | 3 => ⟨S8x503x1, .i32⟩
  | 4 => ⟨S1, .i32⟩
  | 5 => ⟨S_, .i32⟩
  | 6 => ⟨S8x503x1, .i32⟩
  | 7 => ⟨S8x503x1, .i1⟩
  | 8 => ⟨S1x1x1, .i32⟩
  | 9 => ⟨S8x503x1, .i32⟩
  | 10 => ⟨S8x503x1, .i1⟩
  | 11 => ⟨S8x503x1, .i1⟩
  | 12 => ⟨S_, .i1⟩
  | 13 => ⟨S8x503, .i1⟩
  | 14 => ⟨S8x503x1, .f32⟩
  | 15 => ⟨S8x503x1, .i1⟩
  | 16 => ⟨S_, .f32⟩
  | 17 => ⟨S8x503x1, .f32⟩
  | 18 => ⟨S8x503x1, .f32⟩
  | 19 => ⟨S8x503x1x1, .f32⟩
  | 20 => ⟨S8x503x3x1, .f32⟩
  | 21 => ⟨S8x503x3, .f32⟩
  | 22 => ⟨S8x3x503, .f32⟩
  | 23 => ⟨S8x1290x3, .f32⟩
  | 24 => ⟨S8x503x1, .i32⟩
  | 25 => ⟨S_, .i32⟩
  | 26 => ⟨S8x503x1, .i32⟩
  | 27 => ⟨S8x503x1, .i1⟩
  | 28 => ⟨S_, .i32⟩
  | 29 => ⟨S8x503x1, .i32⟩
  | 30 => ⟨S8x503x1, .i32⟩
  | 31 => ⟨S8x503x1, .i32⟩
  | 32 => ⟨S1, .i32⟩
  | 33 => ⟨S_, .i32⟩
  | 34 => ⟨S8x503x1, .i32⟩
  | 35 => ⟨S8x503x1, .i1⟩
  | 36 => ⟨S1x1x1, .i32⟩
  | 37 => ⟨S8x503x1, .i32⟩
  | 38 => ⟨S8x503x1, .i1⟩
  | 39 => ⟨S8x503x1, .i1⟩
  | 40 => ⟨S_, .i1⟩
  | 41 => ⟨S8x503, .i1⟩
  | 42 => ⟨S8x503x3, .f32⟩
  | 43 => ⟨S8x503x3, .i1⟩
  | 44 => ⟨S_, .f32⟩
  | 45 => ⟨S8x503x3, .f32⟩
  | 46 => ⟨S8x503x3, .f32⟩
  | 47 => ⟨S8x3x503, .f32⟩
  | _ => ⟨S8x512x2048, .f32⟩

abbrev hbmTy (i : Nat) : BufTy := match i / 128 with
  | 0 => hbmTy0_0 i
  | 1 => hbmTy0_1 i
  | 2 => hbmTy0_2 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_values : Ref sig .tc := ⟨.hbm, 39, rfl⟩
abbrev main_indices : Ref sig .tc := ⟨.hbm, 40, rfl⟩
abbrev main_v28 : Ref sig .tc := ⟨.hbm, 41, rfl⟩
abbrev main_v29 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_1 : Ref sig .tc := ⟨.hbm, 50, rfl⟩
abbrev main_call0_c_2 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_c_3 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_cst : Ref sig .tc := ⟨.hbm, 62, rfl⟩
abbrev main_call0_v14 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_1 : Ref sig .tc := ⟨.hbm, 75, rfl⟩
abbrev main_call1_c_2 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_c_3 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_cst : Ref sig .tc := ⟨.hbm, 87, rfl⟩
abbrev main_call1_v14 : Ref sig .tc := ⟨.hbm, 88, rfl⟩
abbrev main_v34 : Ref sig .tc := ⟨.hbm, 89, rfl⟩
abbrev main_v35 : Ref sig .tc := ⟨.hbm, 90, rfl⟩
abbrev main_cst_6 : Ref sig .tc := ⟨.hbm, 91, rfl⟩
abbrev main_v36 : Ref sig .tc := ⟨.hbm, 92, rfl⟩
abbrev main_cst_7 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_8 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_9 : Ref sig .tc := ⟨.hbm, 105, rfl⟩
abbrev main_v47 : Ref sig .tc := ⟨.hbm, 106, rfl⟩
abbrev main_values_10 : Ref sig .tc := ⟨.hbm, 107, rfl⟩
abbrev main_indices_11 : Ref sig .tc := ⟨.hbm, 108, rfl⟩
abbrev main_v48 : Ref sig .tc := ⟨.hbm, 109, rfl⟩
abbrev main_v49 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_c_1 : Ref sig .tc := ⟨.hbm, 118, rfl⟩
abbrev main_call2_c_2 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_c_3 : Ref sig .tc := ⟨.hbm, 126, rfl⟩
abbrev main_call2_v11 : Ref sig .tc := ⟨.hbm, 127, rfl⟩
abbrev main_call2_v12 : Ref sig .tc := ⟨.hbm, 128, rfl⟩
abbrev main_call2_v13 : Ref sig .tc := ⟨.hbm, 129, rfl⟩
abbrev main_call2_cst : Ref sig .tc := ⟨.hbm, 130, rfl⟩
abbrev main_call2_v14 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_c_1 : Ref sig .tc := ⟨.hbm, 143, rfl⟩
abbrev main_call3_c_2 : Ref sig .tc := ⟨.hbm, 144, rfl⟩
abbrev main_call3_v5 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_c_3 : Ref sig .tc := ⟨.hbm, 151, rfl⟩
abbrev main_call3_v11 : Ref sig .tc := ⟨.hbm, 152, rfl⟩
abbrev main_call3_v12 : Ref sig .tc := ⟨.hbm, 153, rfl⟩
abbrev main_call3_v13 : Ref sig .tc := ⟨.hbm, 154, rfl⟩
abbrev main_call3_cst : Ref sig .tc := ⟨.hbm, 155, rfl⟩
abbrev main_call3_v14 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_cst_12 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_cst_13 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_cst_14 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_cst_15 : Ref sig .tc := ⟨.hbm, 178, rfl⟩
abbrev main_v72 : Ref sig .tc := ⟨.hbm, 179, rfl⟩
abbrev main_cst_16 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_cst_17 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_values_18 : Ref sig .tc := ⟨.hbm, 192, rfl⟩
abbrev main_indices_19 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_call4_c : Ref sig .tc := ⟨.hbm, 197, rfl⟩
abbrev main_call4_v0 : Ref sig .tc := ⟨.hbm, 198, rfl⟩
abbrev main_call4_v1 : Ref sig .tc := ⟨.hbm, 199, rfl⟩
abbrev main_call4_c_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_c_1 : Ref sig .tc := ⟨.hbm, 204, rfl⟩
abbrev main_call4_c_2 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_v8 : Ref sig .tc := ⟨.hbm, 209, rfl⟩
abbrev main_call4_v9 : Ref sig .tc := ⟨.hbm, 210, rfl⟩
abbrev main_call4_v10 : Ref sig .tc := ⟨.hbm, 211, rfl⟩
abbrev main_call4_c_3 : Ref sig .tc := ⟨.hbm, 212, rfl⟩
abbrev main_call4_v11 : Ref sig .tc := ⟨.hbm, 213, rfl⟩
abbrev main_call4_v12 : Ref sig .tc := ⟨.hbm, 214, rfl⟩
abbrev main_call4_v13 : Ref sig .tc := ⟨.hbm, 215, rfl⟩
abbrev main_call4_cst : Ref sig .tc := ⟨.hbm, 216, rfl⟩
abbrev main_call4_v14 : Ref sig .tc := ⟨.hbm, 217, rfl⟩
abbrev main_v86 : Ref sig .tc := ⟨.hbm, 218, rfl⟩
abbrev main_v87 : Ref sig .tc := ⟨.hbm, 219, rfl⟩
abbrev main_cst_20 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_values_21 : Ref sig .tc := ⟨.hbm, 224, rfl⟩
abbrev main_indices_22 : Ref sig .tc := ⟨.hbm, 225, rfl⟩
abbrev main_v91 : Ref sig .tc := ⟨.hbm, 226, rfl⟩
abbrev main_call5_c : Ref sig .tc := ⟨.hbm, 227, rfl⟩
abbrev main_call5_v0 : Ref sig .tc := ⟨.hbm, 228, rfl⟩
abbrev main_call5_v1 : Ref sig .tc := ⟨.hbm, 229, rfl⟩
abbrev main_call5_c_0 : Ref sig .tc := ⟨.hbm, 230, rfl⟩
abbrev main_call5_v2 : Ref sig .tc := ⟨.hbm, 231, rfl⟩
abbrev main_call5_v3 : Ref sig .tc := ⟨.hbm, 232, rfl⟩
abbrev main_call5_v4 : Ref sig .tc := ⟨.hbm, 233, rfl⟩
abbrev main_call5_v5 : Ref sig .tc := ⟨.hbm, 234, rfl⟩
abbrev main_call5_c_1 : Ref sig .tc := ⟨.hbm, 235, rfl⟩
abbrev main_call5_c_2 : Ref sig .tc := ⟨.hbm, 236, rfl⟩
abbrev main_call5_v6 : Ref sig .tc := ⟨.hbm, 237, rfl⟩
abbrev main_call5_v7 : Ref sig .tc := ⟨.hbm, 238, rfl⟩
abbrev main_call5_v8 : Ref sig .tc := ⟨.hbm, 239, rfl⟩
abbrev main_call5_v9 : Ref sig .tc := ⟨.hbm, 240, rfl⟩
abbrev main_call5_v10 : Ref sig .tc := ⟨.hbm, 241, rfl⟩
abbrev main_call5_v11 : Ref sig .tc := ⟨.hbm, 242, rfl⟩
abbrev main_call5_c_3 : Ref sig .tc := ⟨.hbm, 243, rfl⟩
abbrev main_call5_v12 : Ref sig .tc := ⟨.hbm, 244, rfl⟩
abbrev main_call5_v13 : Ref sig .tc := ⟨.hbm, 245, rfl⟩
abbrev main_call5_v14 : Ref sig .tc := ⟨.hbm, 246, rfl⟩
abbrev main_call5_cst : Ref sig .tc := ⟨.hbm, 247, rfl⟩
abbrev main_call5_v15 : Ref sig .tc := ⟨.hbm, 248, rfl⟩
abbrev main_v92 : Ref sig .tc := ⟨.hbm, 249, rfl⟩
abbrev main_v93 : Ref sig .tc := ⟨.hbm, 250, rfl⟩
abbrev main_v94 : Ref sig .tc := ⟨.hbm, 251, rfl⟩
abbrev main_v95 : Ref sig .tc := ⟨.hbm, 252, rfl⟩
abbrev main_call6_c : Ref sig .tc := ⟨.hbm, 253, rfl⟩
abbrev main_call6_v0 : Ref sig .tc := ⟨.hbm, 254, rfl⟩
abbrev main_call6_v1 : Ref sig .tc := ⟨.hbm, 255, rfl⟩
abbrev main_call6_c_0 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_c_1 : Ref sig .tc := ⟨.hbm, 260, rfl⟩
abbrev main_call6_c_2 : Ref sig .tc := ⟨.hbm, 261, rfl⟩
abbrev main_call6_v5 : Ref sig .tc := ⟨.hbm, 262, rfl⟩
abbrev main_call6_v6 : Ref sig .tc := ⟨.hbm, 263, rfl⟩
abbrev main_call6_v7 : Ref sig .tc := ⟨.hbm, 264, rfl⟩
abbrev main_call6_v8 : Ref sig .tc := ⟨.hbm, 265, rfl⟩
abbrev main_call6_v9 : Ref sig .tc := ⟨.hbm, 266, rfl⟩
abbrev main_call6_v10 : Ref sig .tc := ⟨.hbm, 267, rfl⟩
abbrev main_call6_c_3 : Ref sig .tc := ⟨.hbm, 268, rfl⟩
abbrev main_call6_v11 : Ref sig .tc := ⟨.hbm, 269, rfl⟩
abbrev main_call6_v12 : Ref sig .tc := ⟨.hbm, 270, rfl⟩
abbrev main_call6_v13 : Ref sig .tc := ⟨.hbm, 271, rfl⟩
abbrev main_call6_cst : Ref sig .tc := ⟨.hbm, 272, rfl⟩
abbrev main_call6_v14 : Ref sig .tc := ⟨.hbm, 273, rfl⟩
abbrev main_v96 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_v102 : Ref sig .tc := ⟨.hbm, 280, rfl⟩
abbrev main_call7_c : Ref sig .tc := ⟨.hbm, 281, rfl⟩
abbrev main_call7_v0 : Ref sig .tc := ⟨.hbm, 282, rfl⟩
abbrev main_call7_v1 : Ref sig .tc := ⟨.hbm, 283, rfl⟩
abbrev main_call7_c_0 : Ref sig .tc := ⟨.hbm, 284, rfl⟩
abbrev main_call7_v2 : Ref sig .tc := ⟨.hbm, 285, rfl⟩
abbrev main_call7_v3 : Ref sig .tc := ⟨.hbm, 286, rfl⟩
abbrev main_call7_v4 : Ref sig .tc := ⟨.hbm, 287, rfl⟩
abbrev main_call7_c_1 : Ref sig .tc := ⟨.hbm, 288, rfl⟩
abbrev main_call7_c_2 : Ref sig .tc := ⟨.hbm, 289, rfl⟩
abbrev main_call7_v5 : Ref sig .tc := ⟨.hbm, 290, rfl⟩
abbrev main_call7_v6 : Ref sig .tc := ⟨.hbm, 291, rfl⟩
abbrev main_call7_v7 : Ref sig .tc := ⟨.hbm, 292, rfl⟩
abbrev main_call7_v8 : Ref sig .tc := ⟨.hbm, 293, rfl⟩
abbrev main_call7_v9 : Ref sig .tc := ⟨.hbm, 294, rfl⟩
abbrev main_call7_v10 : Ref sig .tc := ⟨.hbm, 295, rfl⟩
abbrev main_call7_c_3 : Ref sig .tc := ⟨.hbm, 296, rfl⟩
abbrev main_call7_v11 : Ref sig .tc := ⟨.hbm, 297, rfl⟩
abbrev main_call7_v12 : Ref sig .tc := ⟨.hbm, 298, rfl⟩
abbrev main_call7_v13 : Ref sig .tc := ⟨.hbm, 299, rfl⟩
abbrev main_call7_cst : Ref sig .tc := ⟨.hbm, 300, rfl⟩
abbrev main_call7_v14 : Ref sig .tc := ⟨.hbm, 301, rfl⟩
abbrev main_v103 : Ref sig .tc := ⟨.hbm, 302, rfl⟩
abbrev main_v104 : Ref sig .tc := ⟨.hbm, 303, rfl⟩

abbrev nD : Nat := 1
abbrev τ : Topo := Topo.v7x

variable {F : FTy → Type} [FloatOps F]
-- ==== Proof.Windows.lean ====
/-
  Windows of a memory reference that a counted loop fills tile by tile, stated without any program: which tiles of a
  band of columns are in place (`TilesAt`), what a further store keeps of them, and what a load of the whole band reads.
-/
module

public import Idealize.ShloMosaic.Lib.VecWindow

@[expose] public section

namespace Cert.Proof

open Idealize.ShloMosaic Idealize.ShloMosaic.VecWindow

variable {α : Type} {s : Shape}

/-- The first `k` tiles of a band (tile `t` at offsets `off t`, all of sizes `size`) hold `f 0`, …, `f (k - 1)`. -/
def TilesAt (x : s.Idx → α) (off : ℕ → Fin s.rank → ℕ) (size : Fin s.rank → ℕ) (k : ℕ)
    (f : ℕ → ((a : Fin s.rank) → Fin (size a)) → α) : Prop :=
  ∀ t < k, ∀ inb, window x (off t) size inb = f t

/-- Before any tile is written nothing is asked. -/
theorem TilesAt.zero (x : s.Idx → α) (off : ℕ → Fin s.rank → ℕ) (size : Fin s.rank → ℕ)
    (f : ℕ → ((a : Fin s.rank) → Fin (size a)) → α) : TilesAt x off size 0 f :=
  fun _ h => absurd h (Nat.not_lt_zero _)

/-- A store apart from the tiles keeps them. -/
theorem TilesAt.apart {x : s.Idx → α} {off : ℕ → Fin s.rank → ℕ} {size : Fin s.rank → ℕ} {k : ℕ}
    {f : ℕ → ((a : Fin s.rank) → Fin (size a)) → α} (h : TilesAt x off size k f) (off' size' : Fin s.rank → ℕ)
    (w : ((a : Fin s.rank) → Fin (size' a)) → α)
    (hd : ∀ t < k, ∃ a, off t a + size a ≤ off' a ∨ off' a + size' a ≤ off t a) :
    TilesAt (put x off' size' w) off size k f := fun t ht inb => by
  obtain ⟨a, ha⟩ := hd t ht
  rw [window_put_of_disjoint x off' size' (off t) size inb w a ha, h t ht inb]

/-- Storing the next tile puts one more tile in place. -/
theorem TilesAt.next {x : s.Idx → α} {off : ℕ → Fin s.rank → ℕ} {size : Fin s.rank → ℕ} {k : ℕ}
    {f : ℕ → ((a : Fin s.rank) → Fin (size a)) → α} (h : TilesAt x off size k f)
    (hd : ∀ t < k, ∃ a, off t a + size a ≤ off k a ∨ off k a + size a ≤ off t a) :
    TilesAt (put x (off k) size (f k)) off size (k + 1) f := fun t ht inb => by
  rcases Nat.lt_succ_iff_lt_or_eq.mp ht with ht | rfl
  · exact h.apart (off k) size (f k) hd t ht inb
  · exact window_put_same x (off t) size inb (f t)

/-- Fewer tiles are in place as well. -/
theorem TilesAt.mono {x : s.Idx → α} {off : ℕ → Fin s.rank → ℕ} {size : Fin s.rank → ℕ} {k k' : ℕ}
    {f : ℕ → ((a : Fin s.rank) → Fin (size a)) → α} (h : TilesAt x off size k f) (hk : k' ≤ k) : TilesAt x off size k' f :=
  fun t ht => h t (Nat.lt_of_lt_of_le ht hk)

/-- A table of `128`-row tiles read by row and column. -/
def rows {n w : ℕ} (f : ℕ → ((a : Fin 2) → Fin ((![128, w] : Fin 2 → ℕ) a)) → α) : ((a : Fin 2) → Fin ((![n, w] : Fin 2 → ℕ) a)) → α :=
  fun y => f ((y 0).val / 128) fun a => match a with
    | ⟨0, _⟩ => ⟨(y 0).val % 128, Nat.mod_lt _ (by decide)⟩
    | ⟨1, _⟩ => ⟨(y 1).val, (y 1).isLt⟩

/-- A load of the whole band reads its tiles row by row. -/
theorem TilesAt.window_rows {R C w c0 k n : ℕ} {x : Shape.Idx ⟨2, ![R, C]⟩ → α}
    {f : ℕ → ((a : Fin 2) → Fin ((![128, w] : Fin 2 → ℕ) a)) → α}
    (h : TilesAt (s := ⟨2, ![R, C]⟩) x (fun t => ![128 * t, c0]) ![128, w] k f) (hn : n = 128 * k)
    (inb : ∀ a, (![0, c0] : Fin 2 → ℕ) a + (![n, w] : Fin 2 → ℕ) a ≤ (![R, C] : Fin 2 → ℕ) a) :
    window (s := ⟨2, ![R, C]⟩) x ![0, c0] ![n, w] inb = rows f := by
  funext y
  have h0 : (y 0).val < n := (y 0).isLt
  have h1 : (y 1).val < w := (y 1).isLt
  have i0 : 0 + n ≤ R := inb 0
  have i1 : c0 + w ≤ C := inb 1
  have ht : (y 0).val / 128 < k := by omega
  have inb' : ∀ a, (![128 * ((y 0).val / 128), c0] : Fin 2 → ℕ) a + (![128, w] : Fin 2 → ℕ) a ≤ (![R, C] : Fin 2 → ℕ) a := by
    intro a; fin_cases a
    · show 128 * ((y 0).val / 128) + 128 ≤ R; omega
    · exact i1
  unfold rows
  rw [← h _ ht inb']
  refine congrArg x (funext fun a => Fin.ext ?_)
  fin_cases a
  · show 0 + 1 * (y 0).val = 128 * ((y 0).val / 128) + 1 * ((y 0).val % 128); omega
  · rfl

/-- The first `k` tiles of `128` rows of the band of columns `c0`, …, `c0 + w - 1` hold `f 0`, …, `f (k - 1)`. -/
def Band {R C : ℕ} (x : Shape.Idx ⟨2, ![R, C]⟩ → α) (c0 w k : ℕ) (f : ℕ → ((a : Fin 2) → Fin ((![128, w] : Fin 2 → ℕ) a)) → α) : Prop :=
  TilesAt (s := ⟨2, ![R, C]⟩) x (fun t => ![128 * t, c0]) ![128, w] k f

section Band

variable {R C c0 w k : ℕ} {x : Shape.Idx ⟨2, ![R, C]⟩ → α} {f : ℕ → ((a : Fin 2) → Fin ((![128, w] : Fin 2 → ℕ) a)) → α}

/-- Before any band is written nothing is asked. -/
theorem Band.zero (x : Shape.Idx ⟨2, ![R, C]⟩ → α) (c0 w : ℕ) (f : ℕ → ((a : Fin 2) → Fin ((![128, w] : Fin 2 → ℕ) a)) → α) :
    Band x c0 w 0 f := TilesAt.zero _ _ _ _

/-- A store into other columns keeps a band. -/
theorem Band.apart (h : Band x c0 w k f) (off' size' : Fin 2 → ℕ) (p : ((a : Fin 2) → Fin (size' a)) → α)
    (hc : c0 + w ≤ off' 1 ∨ off' 1 + size' 1 ≤ c0) : Band (put (s := ⟨2, ![R, C]⟩) x off' size' p) c0 w k f :=
  TilesAt.apart (s := ⟨2, ![R, C]⟩) h off' size' p fun t _ => ⟨(1 : Fin 2), hc⟩

/-- A store into other columns keeps a band, its offset given by coordinates. -/
theorem Band.beside (h : Band x c0 w k f) {off' size' : Fin 2 → ℕ} {p : ((a : Fin 2) → Fin (size' a)) → α} {a b : ℕ}
    (ho : off' = ![a, b]) (hc : c0 + w ≤ b ∨ b + size' 1 ≤ c0) : Band (put (s := ⟨2, ![R, C]⟩) x off' size' p) c0 w k f := by
  subst ho; exact h.apart _ _ _ hc

/-- Storing the next tile extends a band. -/
theorem Band.next (h : Band x c0 w k f) {off' : Fin 2 → ℕ} (ho : off' = ![128 * k, c0])
    {p : ((a : Fin 2) → Fin ((![128, w] : Fin 2 → ℕ) a)) → α} (hp : p = f k) :
    Band (put (s := ⟨2, ![R, C]⟩) x off' ![128, w] p) c0 w (k + 1) f := by
  subst ho; subst hp
  exact TilesAt.next (s := ⟨2, ![R, C]⟩) h fun t ht => ⟨(0 : Fin 2), Or.inl (show 128 * t + 128 ≤ 128 * k by omega)⟩

/-- A load of a tile of a band. -/
theorem Band.tile (h : Band x c0 w k f) {t : ℕ} (ht : t < k) {off' : Fin 2 → ℕ} (ho : off' = ![128 * t, c0])
    (inb : ∀ a, off' a + (![128, w] : Fin 2 → ℕ) a ≤ (![R, C] : Fin 2 → ℕ) a) :
    window (s := ⟨2, ![R, C]⟩) x off' ![128, w] inb = f t := by
  subst ho; exact h t ht inb

/-- A load of a whole band. -/
theorem Band.whole (h : Band x c0 w k f) {n : ℕ} (hn : n = 128 * k)
    (inb : ∀ a, (![0, c0] : Fin 2 → ℕ) a + (![n, w] : Fin 2 → ℕ) a ≤ (![R, C] : Fin 2 → ℕ) a) :
    window (s := ⟨2, ![R, C]⟩) x ![0, c0] ![n, w] inb = rows f := TilesAt.window_rows h hn inb

/-- Tile `t` of a table of `n` rows. -/
def tileOf {n w : ℕ} (hn : 0 < n) (g : ((a : Fin 2) → Fin ((![n, w] : Fin 2 → ℕ) a)) → α) (t : ℕ) :
    ((a : Fin 2) → Fin ((![128, w] : Fin 2 → ℕ) a)) → α :=
  fun y => g fun a => match a with
    | ⟨0, _⟩ => ⟨(128 * t + (y 0).val) % n, Nat.mod_lt _ hn⟩
    | ⟨1, _⟩ => ⟨(y 1).val, (y 1).isLt⟩

/-- Storing a whole band at once puts all its tiles in place. -/
theorem Band.of_put (x : Shape.Idx ⟨2, ![R, C]⟩ → α) (c0 : ℕ) {n w k : ℕ} (hn : 0 < n) (hk : n = 128 * k)
    (g : ((a : Fin 2) → Fin ((![n, w] : Fin 2 → ℕ) a)) → α) :
    Band (put (s := ⟨2, ![R, C]⟩) x ![0, c0] ![n, w] g) c0 w k (tileOf hn g) := fun t ht inb => by
  funext y
  have h0 : (y 0).val < 128 := (y 0).isLt
  have h1 : (y 1).val < w := (y 1).isLt
  have hin : ∀ a, (![0, c0] : Fin 2 → ℕ) a ≤ ((Rect.unit (s := ⟨2, ![R, C]⟩) ![128 * t, c0] ![128, w] inb).emb y a).val
      ∧ ((Rect.unit (s := ⟨2, ![R, C]⟩) ![128 * t, c0] ![128, w] inb).emb y a).val < (![0, c0] : Fin 2 → ℕ) a + (![n, w] : Fin 2 → ℕ) a := by
    intro a; fin_cases a
    · show 0 ≤ 128 * t + 1 * (y 0).val ∧ 128 * t + 1 * (y 0).val < 0 + n; omega
    · show c0 ≤ c0 + 1 * (y 1).val ∧ c0 + 1 * (y 1).val < c0 + w; omega
  show (if h : _ then g _ else _) = _
  rw [dif_pos hin]
  refine congrArg g (funext fun a => Fin.ext ?_)
  fin_cases a
  · show 128 * t + 1 * (y 0).val - 0 = (128 * t + (y 0).val) % n
    rw [Nat.mod_eq_of_lt (by omega)]; omega
  · show c0 + 1 * (y 1).val - c0 = (y 1).val; omega

end Band

/-- One store, read back. -/
theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (p : (Rect.unit off size inb).shape.Idx → Val e) :
    v.read Val (v.writes Val f [⟨Rect.unit off size inb, p⟩]) = put (v.read Val f) off size p := by
  rw [View.read_writes_cons_put v f inb p [] rfl, View.writes_nil]

/-- Two stores, read back. -/
theorem read_put2 {sig : RefSig} {κ : Kind} {sp : Space} {s : Shape} {e : EltTy} {Val : EltTy → Type} (v : View sig κ sp s e) (f : v.ty.Contents Val)
    {off size off' size' : Fin s.rank → ℕ} (inb : ∀ a, off a + size a ≤ s.size a) (p : (Rect.unit off size inb).shape.Idx → Val e)
    (inb' : ∀ a, off' a + size' a ≤ s.size a) (p' : (Rect.unit off' size' inb').shape.Idx → Val e) :
    v.read Val (v.writes Val f [⟨Rect.unit off' size' inb', p'⟩, ⟨Rect.unit off size inb, p⟩]) = put (put (v.read Val f) off size p) off' size' p' := by
  rw [View.read_writes_cons_put v f inb' p' _ rfl, read_put]

/-- A remainder as an index: of an index, the index itself. -/
def clip {n : ℕ} (h : 0 < n) (t : ℕ) : Fin n := ⟨t % n, Nat.mod_lt _ h⟩

/-- A number already in range is left as it is. -/
theorem clip_val {n : ℕ} (h : 0 < n) (k : Fin n) : clip h k.val = k := Fin.ext (Nat.mod_eq_of_lt k.isLt)

end Cert.Proof

end
-- ==== Proof.Body.Chain.lean ====
/-
  What one grid step of the kernel computes from its four input blocks, as a chain of tables: every loop's tiles and
  carried values as functions of the blocks, over the kernel's own payload functions. No memory here.
-/
module

public import proofs.«01_k».proof.Proof.Windows
public import proofs.«01_k».proof.Proof.Gen.KernelIdeal.Skeleton

@[expose] public section

set_option maxRecDepth 16384

noncomputable section

namespace Cert.Proof.KI

open Cert.KernelIdeal Cert.KernelIdeal.Gen Cert.Proof
open Idealize.ShloMosaic Idealize.ShloMosaic.VecWindow

variable {F : FTy → Type} [FloatOps F] [Named F]

/-- How many rounds loop 1 makes. -/
theorem n1 : k0_t1_loop.trips = 16 := by decide +kernel
/-- How many rounds loop 2 makes. -/
theorem n2 : k0_t2_loop.trips = 16 := by decide +kernel
/-- How many rounds loop 3 makes. -/
theorem n3 : k0_t3_loop.trips = 16 := by decide +kernel
/-- How many rounds loop 4 makes. -/
theorem n4 : k0_t4_loop.trips = 16 := by decide +kernel
/-- How many rounds loop 5 makes. -/
theorem n5 : k0_t5_loop.trips = 11 := by decide +kernel
/-- How many rounds loop 6 makes. -/
theorem n6 : k0_t6_loop.trips = 16 := by decide +kernel
/-- How many rounds loop 7 makes. -/
theorem n7 : k0_t7_loop.trips = 11 := by decide +kernel
/-- How many rounds loop 8 makes. -/
theorem n8 : k0_t8_loop.trips = 11 := by decide +kernel
/-- How many rounds loop 9 makes. -/
theorem n9 : k0_t9_loop.trips = 11 := by decide +kernel
/-- Loop 1 makes at least one round. -/
theorem p1 : 0 < k0_t1_loop.trips := by rw [n1]; decide
/-- Loop 4 makes at least one round. -/
theorem p4 : 0 < k0_t4_loop.trips := by rw [n4]; decide
/-- Loop 5 makes at least one round. -/
theorem p5 : 0 < k0_t5_loop.trips := by rw [n5]; decide
/-- Loop 6 makes at least one round. -/
theorem p6 : 0 < k0_t6_loop.trips := by rw [n6]; decide
/-- Loop 7 makes at least one round. -/
theorem p7 : 0 < k0_t7_loop.trips := by rw [n7]; decide
/-- Loop 8 makes at least one round. -/
theorem p8 : 0 < k0_t8_loop.trips := by rw [n8]; decide
/-- Loop 9 makes at least one round. -/
theorem p9 : 0 < k0_t9_loop.trips := by rw [n9]; decide

/-- `128` points of the source embeddings. -/
def tlk (X1 : Vec F S1x2048x512 .f32) (k : Fin k0_t1_loop.trips) : Vec F S1x128x512 .f32 :=
  window X1 (k0_off1 k) S1x128x512.size (k0_off1_inb k)
/-- Tile `t` of the source embeddings, for any number `t`. -/
def tl1 (X1 : Vec F S1x2048x512 .f32) (t : ℕ) : Vec F S1x128x512 .f32 := tlk X1 (clip p1 t)
/-- At a loop's round it is that round's tile. -/
theorem tl1_val (X1 : Vec F S1x2048x512 .f32) (k : Fin k0_t1_loop.trips) : tl1 X1 k.val = tlk X1 k := by
  unfold tl1; rw [clip_val p1 k]
/-- `128` rows of the scores. -/
def sT (X1 X2 : Vec F S1x2048x512 .f32) (t : ℕ) : FVec F S128x2048 .f32 := k0_pay11 X2 (tl1 X1 t)
/-- The column sums of the row-wise softmax and the column maxima, over the first `t` tiles. -/
def car (X1 X2 : Vec F S1x2048x512 .f32) : ℕ → FVec F S1x2048 .f32 × FVec F S1x2048 .f32
  | 0 => (k0_pay8, k0_pay9)
  | t + 1 => (k0_pay12 X2 (car X1 X2 t).1 (tl1 X1 t), k0_pay13 X2 (car X1 X2 t).2 (tl1 X1 t))
/-- The denominators of the column-wise softmax, over the first `t` tiles. -/
def den (X1 X2 : Vec F S1x2048x512 .f32) : ℕ → FVec F S1x2048 .f32
  | 0 => k0_pay14
  | t + 1 => k0_pay15 (car X1 X2 16).2 (den X1 X2 t) (sT X1 X2 t)
/-- The row sums of the column-wise softmax. -/
def rsT (X1 X2 : Vec F S1x2048x512 .f32) (t : ℕ) : FVec F S128x1 .f32 := k0_pay16 (car X1 X2 16).2 (den X1 X2 16) (sT X1 X2 t)
/-- The row sums as one row. -/
def v15 (X1 X2 : Vec F S1x2048x512 .f32) : FVec F S1x2048 .f32 := k0_pay17 (F := F) (rows (rsT X1 X2))
/-- The column sums as a column, by tiles. -/
def csT (X1 X2 : Vec F S1x2048x512 .f32) (t : ℕ) : FVec F S128x1 .f32 := tileOf (n := 2048) (by decide) (k0_pay18 (F := F) (car X1 X2 16).1) t
/-- The ranks of the column sums. -/
def rkcT (X1 X2 : Vec F S1x2048x512 .f32) (t : ℕ) : FVec F S128x1 .f32 := k0_pay19 (car X1 X2 16).1 (clip p4 t) (csT X1 X2 t)
/-- The ranks of the column sums as one row. -/
def v22 (X1 X2 : Vec F S1x2048x512 .f32) : FVec F S1x2048 .f32 := k0_pay20 (F := F) (rows (rkcT X1 X2))
/-- The target embeddings in order of their column sums. -/
def teT (X1 X2 : Vec F S1x2048x512 .f32) (t : ℕ) : FVec F S128x512 .f32 := k0_pay22 (k0_pay7 X2) (v22 X1 X2) (clip p5 t)
/-- The target points in that order. -/
def tpT (X1 X2 : Vec F S1x2048x512 .f32) (X4 : Vec F S1x2048x3 .f32) (t : ℕ) : FVec F S128x3 .f32 := k0_pay23 (v22 X1 X2) X4 (clip p5 t)
/-- The ranks of the row sums. -/
def rkrT (X1 X2 : Vec F S1x2048x512 .f32) (t : ℕ) : FVec F S128x1 .f32 := k0_pay24 (v15 X1 X2) (clip p6 t) (rsT X1 X2 t)
/-- The ranks of the row sums as one column. -/
def v27 (X1 X2 : Vec F S1x2048x512 .f32) : Vec F S2048x1 .f32 := rows (rkrT X1 X2)
/-- The source embeddings in order of their row sums. -/
def seT (X1 X2 : Vec F S1x2048x512 .f32) (t : ℕ) : FVec F S128x512 .f32 := k0_pay26 (v27 X1 X2) X1 (clip p7 t)
/-- The source points in that order. -/
def spT (X1 X2 : Vec F S1x2048x512 .f32) (X3 : Vec F S1x2048x3 .f32) (t : ℕ) : FVec F S128x3 .f32 := k0_pay27 (v27 X1 X2) X3 (clip p7 t)
/-- The selected target embeddings, all rows together. -/
def v34 (X1 X2 : Vec F S1x2048x512 .f32) : Vec F S1408x512 .f32 := rows (teT X1 X2)
/-- The selected target points, all rows together. -/
def v39 (X1 X2 : Vec F S1x2048x512 .f32) (X4 : Vec F S1x2048x3 .f32) : Vec F S1408x3 .f32 := rows (tpT X1 X2 X4)
/-- The best target point of each selected source point. -/
def cdT (X1 X2 : Vec F S1x2048x512 .f32) (X4 : Vec F S1x2048x3 .f32) (t : ℕ) : FVec F S128x3 .f32 :=
  k0_pay29 (k0_pay6 (v34 X1 X2) (k0_pay28 (v34 X1 X2)) (v39 X1 X2 X4) (seT X1 X2 t))
/-- The best probability of each selected source point. -/
def vlT (X1 X2 : Vec F S1x2048x512 .f32) (t : ℕ) : FVec F S128x1 .f32 :=
  k0_pay30 (Scalar.muli (Scf.iv 0#32 1#32 (clip p8 t)) 128#32) (k0_pay5 (v34 X1 X2) (k0_pay28 (v34 X1 X2)) (seT X1 X2 t))
/-- The best probabilities as one column. -/
def v41 (X1 X2 : Vec F S1x2048x512 .f32) : Vec F S1408x1 .f32 := rows (vlT X1 X2)
/-- The ranks of the best probabilities. -/
def rkvT (X1 X2 : Vec F S1x2048x512 .f32) (t : ℕ) : FVec F S128x1 .f32 := k0_pay31 (v41 X1 X2) (clip p9 t) (vlT X1 X2 t)
/-- The ranks of the best probabilities as one column. -/
def v44 (X1 X2 : Vec F S1x2048x512 .f32) : Vec F S1408x1 .f32 := rows (rkvT X1 X2)
/-- The block of the first result. -/
def outB (X1 X2 : Vec F S1x2048x512 .f32) (X3 : Vec F S1x2048x3 .f32) : FVec F S1x512x3 .f32 :=
  k0_pay2 (F := F) (v44 X1 X2) (rows (spT X1 X2 X3))
/-- The block of the second result. -/
def corrB (X1 X2 : Vec F S1x2048x512 .f32) (X4 : Vec F S1x2048x3 .f32) : FVec F S1x512x3 .f32 :=
  k0_pay3 (F := F) (v44 X1 X2) (rows (cdT X1 X2 X4))

end Cert.Proof.KI

end
-- ==== Proof.Body.Loops.lean ====
/-
  The kernel's nine counted loops and its whole body, run once on memory references held whole: each loop by an invariant
  that names the tiles its trips have put in place, the body by the loops in turn. The two output blocks end at the
  functions `outB` and `corrB` of the four input blocks, whatever the two scratch tables held before.
-/
module

public import proofs.«01_k».proof.Proof.Body.Chain
public import proofs.«01_k».proof.Proof.Gen.KernelIdeal.Frame

@[expose] public section

set_option maxRecDepth 16384

noncomputable section

namespace Cert.Proof.KI

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ (UR sig nD τ) ℕ

variable (c : Dev nD) (i : grid0.Coords) (arg1 : Memref sig .tc .vmem S1x2048x512 .f32) (harg1 : arg1.IsWhole) (arg2 : Memref sig .tc .vmem S1x2048x512 .f32) (harg2 : arg2.IsWhole) (arg3 : Memref sig .tc .vmem S1x2048x3 .f32) (harg3 : arg3.IsWhole) (arg4 : Memref sig .tc .vmem S1x2048x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S2048x2048 .f32) (harg7 : arg7.IsWhole) (arg8 : Memref sig .tc .vmem S2048x128 .f32) (harg8 : arg8.IsWhole)

/-- A memref held whole at contents `f`. -/
abbrev pt {sp : Space} {S : Shape} {e : EltTy} (M : Memref sig .tc sp S e) (f : BufTy.Contents (Elt F) M.view.ty) : sProp 𝕄 :=
  (M.view.loc (c : Thread nD τ) ↦[M.view.set]{fullShare} f)

/-- The score tiles, the column sums of the row-wise softmax and the column maxima. -/
theorem loop1 (X1 X2 : Vec F S1x2048x512 .f32) (f1 : BufTy.Contents (Elt F) arg1.view.ty) (h1 : arg1.view.read (Elt F) f1 = X1)
    (f7 : BufTy.Contents (Elt F) arg7.view.ty) :
    iprop(pt c arg1 f1 ∗ pt c arg7 f7)
      ⊢ wp frame (wpE (defs₀ (F := F)) Variants.none (c : Thread nD τ) none) Set.univ
        (Scf.Loop.for k0_t1_loop k0_t1_ok (k0_pay8 (F := F), k0_pay9 (F := F)) (k0_t1_body (F := F) i arg1 harg1 arg2 harg2 arg3 harg3 arg4 harg4 arg5 harg5 arg6 harg6 arg7 harg7 arg8 harg8 X2))
        fun r => iprop(⌜r = car X1 X2 16⌝ ∗ pt c arg1 f1 ∗ ∃ g, pt c arg7 g ∗ ⌜Band (arg7.view.read (Elt F) g) 0 2048 16 (sT X1 X2)⌝) := by
  refine .trans ?_ (Scf.wp_for frame _ Set.univ _ _ _ k0_t1_ok _ _ (fun k acc => iprop(⌜acc = car X1 X2 k⌝ ∗ pt c arg1 f1 ∗ ∃ g, pt c arg7 g ∗ ⌜Band (arg7.view.read (Elt F) g) 0 2048 k (sT X1 X2)⌝)) ?step)
  case step =>
    intro k acc
    have hk : k.val < 16 := Nat.lt_of_lt_of_le k.isLt k0_t1_abs.2.1
    unfold k0_t1_body
    iintro ⟨%ha, H1, ⟨%g, H7, %hB⟩⟩
    subst ha
    sl_exec
    sl_step
    have hl : View.readAt (Elt F) arg1.view (Rect.unit (s := S1x2048x512) (k0_off1 k) S1x128x512.size (k0_off1_inb k)).toLoadRect f1 = tl1 X1 k.val := by
      rw [View.readAt_unit _ _ _ rfl (k0_off1_inb k), h1, tl1_val]; rfl
    isplitr
    · ipureintro; rw [hl]; rfl
    isplitl [H1]; · iexact H1
    iexists _; isplitl [H7]; · iexact H7
    ipureintro
    rw [read_put, hl]
    exact hB.next (k0_off2_eq k) rfl
  · iintro ⟨H1, H7⟩
    isplitl [H1 H7]
    · isplitr; · ipureintro; rfl
      isplitl [H1]; · iexact H1
      iexists f7; isplitl [H7]; · iexact H7
      ipureintro; exact Band.zero _ _ _ _
    iintro %r H
    rw [show Scf.trips k0_t1_loop.lb k0_t1_loop.ub k0_t1_loop.st = 16 from n1]
    iexact H

/-- The denominators of the column-wise softmax. -/
theorem loop2 (X1 X2 : Vec F S1x2048x512 .f32) (f7 : BufTy.Contents (Elt F) arg7.view.ty) (h7 : Band (arg7.view.read (Elt F) f7) 0 2048 16 (sT X1 X2)) :
    pt c arg7 f7
      ⊢ wp frame (wpE (defs₀ (F := F)) Variants.none (c : Thread nD τ) none) Set.univ
        (Scf.Loop.for k0_t2_loop k0_t2_ok (k0_pay14 (F := F)) (k0_t2_body (F := F) i arg1 harg1 arg2 harg2 arg3 harg3 arg4 harg4 arg5 harg5 arg6 harg6 arg7 harg7 arg8 harg8 (car X1 X2 16).2))
        fun r => iprop(⌜r = den X1 X2 16⌝ ∗ pt c arg7 f7) := by
  refine .trans ?_ (Scf.wp_for frame _ Set.univ _ _ _ k0_t2_ok _ _ (fun k acc => iprop(⌜acc = den X1 X2 k⌝ ∗ pt c arg7 f7)) ?step)
  case step =>
    intro k acc
    have hk : k.val < 16 := Nat.lt_of_lt_of_le k.isLt k0_t2_abs.2.1
    unfold k0_t2_body
    iintro ⟨%ha, H7⟩
    subst ha
    sl_exec
    sl_step
    have hl : View.readAt (Elt F) arg7.view (Rect.unit (s := S2048x2048) (k0_off3 k) S128x2048.size (k0_off3_inb k)).toLoadRect f7 = sT X1 X2 k.val := by
      rw [View.readAt_unit _ _ _ rfl (k0_off3_inb k)]; exact h7.tile hk (k0_off3_eq k) _
    isplitr
    · ipureintro; rw [hl]; rfl
    iexact H7
  · iintro H7
    isplitl [H7]
    · isplitr; · ipureintro; rfl
      iexact H7
    iintro %r H
    rw [show Scf.trips k0_t2_loop.lb k0_t2_loop.ub k0_t2_loop.st = 16 from n2]
    iexact H

/-- The row sums of the column-wise softmax, into column `0`. -/
theorem loop3 (X1 X2 : Vec F S1x2048x512 .f32) (f7 : BufTy.Contents (Elt F) arg7.view.ty) (f8 : BufTy.Contents (Elt F) arg8.view.ty)
    (h7 : Band (arg7.view.read (Elt F) f7) 0 2048 16 (sT X1 X2)) :
    iprop(pt c arg7 f7 ∗ pt c arg8 f8)
      ⊢ wp frame (wpE (defs₀ (F := F)) Variants.none (c : Thread nD τ) none) Set.univ
        (Scf.Loop.for k0_t3_loop k0_t3_ok ⟨⟩ (k0_t3_body (F := F) i arg1 harg1 arg2 harg2 arg3 harg3 arg4 harg4 arg5 harg5 arg6 harg6 arg7 harg7 arg8 harg8 (car X1 X2 16).2 (den X1 X2 16)))
        fun _ => iprop(pt c arg7 f7 ∗ ∃ g8, pt c arg8 g8 ∗ ⌜Band (arg8.view.read (Elt F) g8) 0 1 16 (rsT X1 X2)⌝) := by
  refine .trans ?_ (Scf.wp_for frame _ Set.univ _ _ _ k0_t3_ok _ _ (fun k _ => iprop(pt c arg7 f7 ∗ ∃ g8, pt c arg8 g8 ∗ ⌜Band (arg8.view.read (Elt F) g8) 0 1 k (rsT X1 X2)⌝)) ?step)
  case step =>
    intro k acc
    have hk : k.val < 16 := Nat.lt_of_lt_of_le k.isLt k0_t3_abs.2.1
    unfold k0_t3_body
    iintro ⟨H7, ⟨%g8, H8, %hB⟩⟩
    sl_exec
    sl_step
    have hB0 := hB
    have hl : View.readAt (Elt F) arg7.view (Rect.unit (s := S2048x2048) (k0_off4 k) S128x2048.size (k0_off4_inb k)).toLoadRect f7 = sT X1 X2 k.val := by
      rw [View.readAt_unit _ _ _ rfl (k0_off4_inb k)]; exact h7.tile hk (k0_off4_eq k) _
    isplitl [H7]; · iexact H7
    iexists _
    isplitl [H8]; · iexact H8
    ipureintro
    rw [read_put, hl]
    exact (hB0.next (k0_off5_eq k) (rfl))
  · iintro ⟨H7, H8⟩
    isplitl [H7 H8]
    · isplitl [H7]; · iexact H7
      iexists f8
      isplitl [H8]; · iexact H8
      ipureintro; exact Band.zero _ _ _ _
    iintro %r H
    rw [show Scf.trips k0_t3_loop.lb k0_t3_loop.ub k0_t3_loop.st = 16 from n3]
    iexact H

/-- The ranks of the column sums, into column `2`. -/
theorem loop4 (X1 X2 : Vec F S1x2048x512 .f32) (f8 : BufTy.Contents (Elt F) arg8.view.ty)
    (hk0 : Band (arg8.view.read (Elt F) f8) 0 1 16 (rsT X1 X2))
    (hk1 : Band (arg8.view.read (Elt F) f8) 6 1 16 (csT X1 X2)) :
    pt c arg8 f8
      ⊢ wp frame (wpE (defs₀ (F := F)) Variants.none (c : Thread nD τ) none) Set.univ
        (Scf.Loop.for k0_t4_loop k0_t4_ok ⟨⟩ (k0_t4_body (F := F) i arg1 harg1 arg2 harg2 arg3 harg3 arg4 harg4 arg5 harg5 arg6 harg6 arg7 harg7 arg8 harg8 (car X1 X2 16).1))
        fun _ => iprop(∃ g8, pt c arg8 g8 ∗ ⌜Band (arg8.view.read (Elt F) g8) 0 1 16 (rsT X1 X2) ∧ Band (arg8.view.read (Elt F) g8) 6 1 16 (csT X1 X2) ∧ Band (arg8.view.read (Elt F) g8) 2 1 16 (rkcT X1 X2)⌝) := by
  refine .trans ?_ (Scf.wp_for frame _ Set.univ _ _ _ k0_t4_ok _ _ (fun k _ => iprop(∃ g8, pt c arg8 g8 ∗ ⌜Band (arg8.view.read (Elt F) g8) 0 1 16 (rsT X1 X2) ∧ Band (arg8.view.read (Elt F) g8) 6 1 16 (csT X1 X2) ∧ Band (arg8.view.read (Elt F) g8) 2 1 k (rkcT X1 X2)⌝)) ?step)
  case step =>
    intro k acc
    have hk : k.val < 16 := Nat.lt_of_lt_of_le k.isLt k0_t4_abs.2.1
    unfold k0_t4_body
    iintro ⟨%g8, H8, %hB⟩
    sl_exec
    sl_step
    obtain ⟨hB0, hB1, hB2⟩ := hB
    have hl : View.readAt (Elt F) arg8.view (Rect.unit (s := S2048x128) (k0_off6 k) S128x1.size (k0_off6_inb k)).toLoadRect g8 = csT X1 X2 k.val := by
      rw [View.readAt_unit _ _ _ rfl (k0_off6_inb k)]; exact hB1.tile hk (k0_off6_eq k) _
    iexists _
    isplitl [H8]; · iexact H8
    ipureintro
    rw [read_put, hl]
    exact ⟨(hB0.beside (k0_off7_eq k) (by decide)), (hB1.beside (k0_off7_eq k) (by decide)), (hB2.next (k0_off7_eq k) (by unfold rkcT; rw [clip_val p4 k]))⟩
  · iintro H8
    isplitl [H8]
    · iexists f8
      isplitl [H8]; · iexact H8
      ipureintro; exact ⟨hk0, hk1, Band.zero _ _ _ _⟩
    iintro %r H
    rw [show Scf.trips k0_t4_loop.lb k0_t4_loop.ub k0_t4_loop.st = 16 from n4]
    iexact H

/-- The selected target embeddings and points. -/
theorem loop5 (X1 X2 : Vec F S1x2048x512 .f32) (X4 : Vec F S1x2048x3 .f32) (f7 : BufTy.Contents (Elt F) arg7.view.ty) (f8 : BufTy.Contents (Elt F) arg8.view.ty)
    (hk0 : Band (arg8.view.read (Elt F) f8) 0 1 16 (rsT X1 X2)) :
    iprop(pt c arg7 f7 ∗ pt c arg8 f8)
      ⊢ wp frame (wpE (defs₀ (F := F)) Variants.none (c : Thread nD τ) none) Set.univ
        (Scf.Loop.for k0_t5_loop k0_t5_ok ⟨⟩ (k0_t5_body (F := F) i arg1 harg1 arg2 harg2 arg3 harg3 arg4 harg4 arg5 harg5 arg6 harg6 arg7 harg7 arg8 harg8 (k0_pay7 X2) (v15 X1 X2) (v22 X1 X2) X4))
        fun _ => iprop(∃ g7 g8, pt c arg7 g7 ∗ pt c arg8 g8 ∗ ⌜Band (arg7.view.read (Elt F) g7) 512 512 11 (teT X1 X2) ∧ Band (arg8.view.read (Elt F) g8) 0 1 16 (rsT X1 X2) ∧ Band (arg8.view.read (Elt F) g8) 8 3 11 (tpT X1 X2 X4)⌝) := by
  refine .trans ?_ (Scf.wp_for frame _ Set.univ _ _ _ k0_t5_ok _ _ (fun k _ => iprop(∃ g7 g8, pt c arg7 g7 ∗ pt c arg8 g8 ∗ ⌜Band (arg7.view.read (Elt F) g7) 512 512 k (teT X1 X2) ∧ Band (arg8.view.read (Elt F) g8) 0 1 16 (rsT X1 X2) ∧ Band (arg8.view.read (Elt F) g8) 8 3 k (tpT X1 X2 X4)⌝)) ?step)
  case step =>
    intro k acc
    have hk : k.val < 11 := Nat.lt_of_lt_of_le k.isLt k0_t5_abs.2.1
    unfold k0_t5_body
    iintro ⟨%g7, %g8, H7, H8, %hB⟩
    sl_exec
    sl_step
    obtain ⟨hB0, hB1, hB2⟩ := hB
    iexists _; iexists _
    isplitl [H7]; · iexact H7
    isplitl [H8]; · iexact H8
    ipureintro
    rw [read_put, read_put]
    exact ⟨(hB0.next (k0_off8_eq k) (by unfold teT; rw [clip_val p5 k])), (hB1.beside (k0_off9_eq k) (by decide)), (hB2.next (k0_off9_eq k) (by unfold tpT; rw [clip_val p5 k]))⟩
  · iintro ⟨H7, H8⟩
    isplitl [H7 H8]
    · iexists f7; iexists f8
      isplitl [H7]; · iexact H7
      isplitl [H8]; · iexact H8
      ipureintro; exact ⟨Band.zero _ _ _ _, hk0, Band.zero _ _ _ _⟩
    iintro %r H
    rw [show Scf.trips k0_t5_loop.lb k0_t5_loop.ub k0_t5_loop.st = 11 from n5]
    iexact H

/-- The ranks of the row sums, into column `2`. -/
theorem loop6 (X1 X2 : Vec F S1x2048x512 .f32) (X4 : Vec F S1x2048x3 .f32) (f8 : BufTy.Contents (Elt F) arg8.view.ty)
    (hk0 : Band (arg8.view.read (Elt F) f8) 0 1 16 (rsT X1 X2))
    (hk1 : Band (arg8.view.read (Elt F) f8) 8 3 11 (tpT X1 X2 X4)) :
    pt c arg8 f8
      ⊢ wp frame (wpE (defs₀ (F := F)) Variants.none (c : Thread nD τ) none) Set.univ
        (Scf.Loop.for k0_t6_loop k0_t6_ok ⟨⟩ (k0_t6_body (F := F) i arg1 harg1 arg2 harg2 arg3 harg3 arg4 harg4 arg5 harg5 arg6 harg6 arg7 harg7 arg8 harg8 (k0_pay7 X2) (v15 X1 X2) (v22 X1 X2) X4))
        fun _ => iprop(∃ g8, pt c arg8 g8 ∗ ⌜Band (arg8.view.read (Elt F) g8) 0 1 16 (rsT X1 X2) ∧ Band (arg8.view.read (Elt F) g8) 8 3 11 (tpT X1 X2 X4) ∧ Band (arg8.view.read (Elt F) g8) 2 1 16 (rkrT X1 X2)⌝) := by
  refine .trans ?_ (Scf.wp_for frame _ Set.univ _ _ _ k0_t6_ok _ _ (fun k _ => iprop(∃ g8, pt c arg8 g8 ∗ ⌜Band (arg8.view.read (Elt F) g8) 0 1 16 (rsT X1 X2) ∧ Band (arg8.view.read (Elt F) g8) 8 3 11 (tpT X1 X2 X4) ∧ Band (arg8.view.read (Elt F) g8) 2 1 k (rkrT X1 X2)⌝)) ?step)
  case step =>
    intro k acc
    have hk : k.val < 16 := Nat.lt_of_lt_of_le k.isLt k0_t6_abs.2.1
    unfold k0_t6_body
    iintro ⟨%g8, H8, %hB⟩
    sl_exec
    sl_step
    obtain ⟨hB0, hB1, hB2⟩ := hB
    have hl : View.readAt (Elt F) arg8.view (Rect.unit (s := S2048x128) (k0_off10 k) S128x1.size (k0_off10_inb k)).toLoadRect g8 = rsT X1 X2 k.val := by
      rw [View.readAt_unit _ _ _ rfl (k0_off10_inb k)]; exact hB0.tile hk (k0_off10_eq k) _
    iexists _
    isplitl [H8]; · iexact H8
    ipureintro
    rw [read_put, hl]
    exact ⟨(hB0.beside (k0_off11_eq k) (by decide)), (hB1.beside (k0_off11_eq k) (by decide)), (hB2.next (k0_off11_eq k) (by unfold rkrT; rw [clip_val p6 k]))⟩
  · iintro H8
    isplitl [H8]
    · iexists f8
      isplitl [H8]; · iexact H8
      ipureintro; exact ⟨hk0, hk1, Band.zero _ _ _ _⟩
    iintro %r H
    rw [show Scf.trips k0_t6_loop.lb k0_t6_loop.ub k0_t6_loop.st = 16 from n6]
    iexact H

/-- The selected source embeddings and points. -/
theorem loop7 (X1 X2 : Vec F S1x2048x512 .f32) (X3 : Vec F S1x2048x3 .f32) (X4 : Vec F S1x2048x3 .f32) (f7 : BufTy.Contents (Elt F) arg7.view.ty) (f8 : BufTy.Contents (Elt F) arg8.view.ty)
    (hk0 : Band (arg7.view.read (Elt F) f7) 512 512 11 (teT X1 X2))
    (hk1 : Band (arg8.view.read (Elt F) f8) 8 3 11 (tpT X1 X2 X4)) :
    iprop(pt c arg7 f7 ∗ pt c arg8 f8)
      ⊢ wp frame (wpE (defs₀ (F := F)) Variants.none (c : Thread nD τ) none) Set.univ
        (Scf.Loop.for k0_t7_loop k0_t7_ok ⟨⟩ (k0_t7_body (F := F) i arg1 harg1 arg2 harg2 arg3 harg3 arg4 harg4 arg5 harg5 arg6 harg6 arg7 harg7 arg8 harg8 (k0_pay7 X2) (v15 X1 X2) (v22 X1 X2) X4 (v27 X1 X2) X1 X3))
        fun _ => iprop(∃ g7 g8, pt c arg7 g7 ∗ pt c arg8 g8 ∗ ⌜Band (arg7.view.read (Elt F) g7) 512 512 11 (teT X1 X2) ∧ Band (arg7.view.read (Elt F) g7) 0 512 11 (seT X1 X2) ∧ Band (arg8.view.read (Elt F) g8) 8 3 11 (tpT X1 X2 X4) ∧ Band (arg8.view.read (Elt F) g8) 12 3 11 (spT X1 X2 X3)⌝) := by
  refine .trans ?_ (Scf.wp_for frame _ Set.univ _ _ _ k0_t7_ok _ _ (fun k _ => iprop(∃ g7 g8, pt c arg7 g7 ∗ pt c arg8 g8 ∗ ⌜Band (arg7.view.read (Elt F) g7) 512 512 11 (teT X1 X2) ∧ Band (arg7.view.read (Elt F) g7) 0 512 k (seT X1 X2) ∧ Band (arg8.view.read (Elt F) g8) 8 3 11 (tpT X1 X2 X4) ∧ Band (arg8.view.read (Elt F) g8) 12 3 k (spT X1 X2 X3)⌝)) ?step)
  case step =>
    intro k acc
    have hk : k.val < 11 := Nat.lt_of_lt_of_le k.isLt k0_t7_abs.2.1
    unfold k0_t7_body
    iintro ⟨%g7, %g8, H7, H8, %hB⟩
    sl_exec
    sl_step
    obtain ⟨hB0, hB1, hB2, hB3⟩ := hB
    iexists _; iexists _
    isplitl [H7]; · iexact H7
    isplitl [H8]; · iexact H8
    ipureintro
    rw [read_put, read_put]
    exact ⟨(hB0.beside (k0_off12_eq k) (by decide)), (hB1.next (k0_off12_eq k) (by unfold seT; rw [clip_val p7 k])), (hB2.beside (k0_off13_eq k) (by decide)), (hB3.next (k0_off13_eq k) (by unfold spT; rw [clip_val p7 k]))⟩
  · iintro ⟨H7, H8⟩
    isplitl [H7 H8]
    · iexists f7; iexists f8
      isplitl [H7]; · iexact H7
      isplitl [H8]; · iexact H8
      ipureintro; exact ⟨hk0, Band.zero _ _ _ _, hk1, Band.zero _ _ _ _⟩
    iintro %r H
    rw [show Scf.trips k0_t7_loop.lb k0_t7_loop.ub k0_t7_loop.st = 11 from n7]
    iexact H

/-- The best target of each selected source point, and its probability. -/
theorem loop8 (X1 X2 : Vec F S1x2048x512 .f32) (X3 : Vec F S1x2048x3 .f32) (X4 : Vec F S1x2048x3 .f32) (f7 : BufTy.Contents (Elt F) arg7.view.ty) (f8 : BufTy.Contents (Elt F) arg8.view.ty)
    (h7 : Band (arg7.view.read (Elt F) f7) 0 512 11 (seT X1 X2))
    (hk0 : Band (arg8.view.read (Elt F) f8) 12 3 11 (spT X1 X2 X3)) :
    iprop(pt c arg7 f7 ∗ pt c arg8 f8)
      ⊢ wp frame (wpE (defs₀ (F := F)) Variants.none (c : Thread nD τ) none) Set.univ
        (Scf.Loop.for k0_t8_loop k0_t8_ok ⟨⟩ (k0_t8_body (F := F) i arg1 harg1 arg2 harg2 arg3 harg3 arg4 harg4 arg5 harg5 arg6 harg6 arg7 harg7 arg8 harg8 (k0_pay7 X2) (v15 X1 X2) (v22 X1 X2) X4 (v34 X1 X2) (v39 X1 X2 X4)))
        fun _ => iprop(pt c arg7 f7 ∗ ∃ g8, pt c arg8 g8 ∗ ⌜Band (arg8.view.read (Elt F) g8) 12 3 11 (spT X1 X2 X3) ∧ Band (arg8.view.read (Elt F) g8) 3 3 11 (cdT X1 X2 X4) ∧ Band (arg8.view.read (Elt F) g8) 1 1 11 (vlT X1 X2)⌝) := by
  refine .trans ?_ (Scf.wp_for frame _ Set.univ _ _ _ k0_t8_ok _ _ (fun k _ => iprop(pt c arg7 f7 ∗ ∃ g8, pt c arg8 g8 ∗ ⌜Band (arg8.view.read (Elt F) g8) 12 3 11 (spT X1 X2 X3) ∧ Band (arg8.view.read (Elt F) g8) 3 3 k (cdT X1 X2 X4) ∧ Band (arg8.view.read (Elt F) g8) 1 1 k (vlT X1 X2)⌝)) ?step)
  case step =>
    intro k acc
    have hk : k.val < 11 := Nat.lt_of_lt_of_le k.isLt k0_t8_abs.2.1
    unfold k0_t8_body
    iintro ⟨H7, ⟨%g8, H8, %hB⟩⟩
    sl_exec
    sl_step
    obtain ⟨hB0, hB1, hB2⟩ := hB
    have hl : View.readAt (Elt F) arg7.view (Rect.unit (s := S2048x2048) (k0_off14 k) S128x512.size (k0_off14_inb k)).toLoadRect f7 = seT X1 X2 k.val := by
      rw [View.readAt_unit _ _ _ rfl (k0_off14_inb k)]; exact h7.tile hk (k0_off14_eq k) _
    isplitl [H7]; · iexact H7
    iexists _
    isplitl [H8]; · iexact H8
    ipureintro
    delta loop8.sl.r_1 loop8.sl.r loop8.sl.v67
    rw [read_put2, hl]
    exact ⟨((hB0.beside (k0_off15_eq k) (by decide)).beside (k0_off16_eq k) (by decide)), ((hB1.next (k0_off15_eq k) (rfl)).beside (k0_off16_eq k) (by decide)), ((hB2.beside (k0_off15_eq k) (by decide)).next (k0_off16_eq k) (by unfold vlT; rw [clip_val p8 k]; rfl))⟩
  · iintro ⟨H7, H8⟩
    isplitl [H7 H8]
    · isplitl [H7]; · iexact H7
      iexists f8
      isplitl [H8]; · iexact H8
      ipureintro; exact ⟨hk0, Band.zero _ _ _ _, Band.zero _ _ _ _⟩
    iintro %r H
    rw [show Scf.trips k0_t8_loop.lb k0_t8_loop.ub k0_t8_loop.st = 11 from n8]
    iexact H

/-- The ranks of the best probabilities, into column `2`. -/
theorem loop9 (X1 X2 : Vec F S1x2048x512 .f32) (X3 : Vec F S1x2048x3 .f32) (X4 : Vec F S1x2048x3 .f32) (f8 : BufTy.Contents (Elt F) arg8.view.ty)
    (hk0 : Band (arg8.view.read (Elt F) f8) 1 1 11 (vlT X1 X2))
    (hk1 : Band (arg8.view.read (Elt F) f8) 12 3 11 (spT X1 X2 X3))
    (hk2 : Band (arg8.view.read (Elt F) f8) 3 3 11 (cdT X1 X2 X4)) :
    pt c arg8 f8
      ⊢ wp frame (wpE (defs₀ (F := F)) Variants.none (c : Thread nD τ) none) Set.univ
        (Scf.Loop.for k0_t9_loop k0_t9_ok ⟨⟩ (k0_t9_body (F := F) i arg1 harg1 arg2 harg2 arg3 harg3 arg4 harg4 arg5 harg5 arg6 harg6 arg7 harg7 arg8 harg8 (k0_pay7 X2) (v15 X1 X2) (v22 X1 X2) X4 (v41 X1 X2)))
        fun _ => iprop(∃ g8, pt c arg8 g8 ∗ ⌜Band (arg8.view.read (Elt F) g8) 1 1 11 (vlT X1 X2) ∧ Band (arg8.view.read (Elt F) g8) 12 3 11 (spT X1 X2 X3) ∧ Band (arg8.view.read (Elt F) g8) 3 3 11 (cdT X1 X2 X4) ∧ Band (arg8.view.read (Elt F) g8) 2 1 11 (rkvT X1 X2)⌝) := by
  refine .trans ?_ (Scf.wp_for frame _ Set.univ _ _ _ k0_t9_ok _ _ (fun k _ => iprop(∃ g8, pt c arg8 g8 ∗ ⌜Band (arg8.view.read (Elt F) g8) 1 1 11 (vlT X1 X2) ∧ Band (arg8.view.read (Elt F) g8) 12 3 11 (spT X1 X2 X3) ∧ Band (arg8.view.read (Elt F) g8) 3 3 11 (cdT X1 X2 X4) ∧ Band (arg8.view.read (Elt F) g8) 2 1 k (rkvT X1 X2)⌝)) ?step)
  case step =>
    intro k acc
    have hk : k.val < 11 := Nat.lt_of_lt_of_le k.isLt k0_t9_abs.2.1
    unfold k0_t9_body
    iintro ⟨%g8, H8, %hB⟩
    sl_exec
    sl_step
    obtain ⟨hB0, hB1, hB2, hB3⟩ := hB
    have hl : View.readAt (Elt F) arg8.view (Rect.unit (s := S2048x128) (k0_off17 k) S128x1.size (k0_off17_inb k)).toLoadRect g8 = vlT X1 X2 k.val := by
      rw [View.readAt_unit _ _ _ rfl (k0_off17_inb k)]; exact hB0.tile hk (k0_off17_eq k) _
    iexists _
    isplitl [H8]; · iexact H8
    ipureintro
    rw [read_put, hl]
    exact ⟨(hB0.beside (k0_off18_eq k) (by decide)), (hB1.beside (k0_off18_eq k) (by decide)), (hB2.beside (k0_off18_eq k) (by decide)), (hB3.next (k0_off18_eq k) (by unfold rkvT; rw [clip_val p9 k]))⟩
  · iintro H8
    isplitl [H8]
    · iexists f8
      isplitl [H8]; · iexact H8
      ipureintro; exact ⟨hk0, hk1, hk2, Band.zero _ _ _ _⟩
    iintro %r H
    rw [show Scf.trips k0_t9_loop.lb k0_t9_loop.ub k0_t9_loop.st = 11 from n9]
    iexact H

end Cert.Proof.KI

end
-- ==== Proof.Body.Run.lean ====
module

public import proofs.«01_k».proof.Proof.Body.Loops

@[expose] public section

set_option maxRecDepth 16384

noncomputable section

namespace Cert.Proof.KI

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ (UR sig nD τ) ℕ

variable (c : Dev nD) (i : grid0.Coords) (arg1 : Memref sig .tc .vmem S1x2048x512 .f32) (harg1 : arg1.IsWhole) (arg2 : Memref sig .tc .vmem S1x2048x512 .f32) (harg2 : arg2.IsWhole) (arg3 : Memref sig .tc .vmem S1x2048x3 .f32) (harg3 : arg3.IsWhole) (arg4 : Memref sig .tc .vmem S1x2048x3 .f32) (harg4 : arg4.IsWhole) (arg5 : Memref sig .tc .vmem S1x512x3 .f32) (harg5 : arg5.IsWhole) (arg6 : Memref sig .tc .vmem S1x512x3 .f32) (harg6 : arg6.IsWhole) (arg7 : Memref sig .tc .vmem S2048x2048 .f32) (harg7 : arg7.IsWhole) (arg8 : Memref sig .tc .vmem S2048x128 .f32) (harg8 : arg8.IsWhole)

/-- The first four loops, up to the ranks of the target points. -/
theorem part2 (X1 X2 : Vec F S1x2048x512 .f32) (X4 : Vec F S1x2048x3 .f32)
    (f1 : BufTy.Contents (Elt F) arg1.view.ty) (h1 : arg1.view.read (Elt F) f1 = X1)
    (f2 : BufTy.Contents (Elt F) arg2.view.ty) (h2 : arg2.view.read (Elt F) f2 = X2)
    (f4 : BufTy.Contents (Elt F) arg4.view.ty) (h4 : arg4.view.read (Elt F) f4 = X4)
    (f7 : BufTy.Contents (Elt F) arg7.view.ty) (f8 : BufTy.Contents (Elt F) arg8.view.ty) :
    iprop(pt c arg1 f1 ∗ pt c arg2 f2 ∗ pt c arg4 f4 ∗ pt c arg7 f7 ∗ pt c arg8 f8)
      ⊢ wp frame (wpE (defs₀ (F := F)) Variants.none (c : Thread nD τ) none) Set.univ (k0_part2 (F := F) i arg1 harg1 arg2 harg2 arg3 harg3 arg4 harg4 arg5 harg5 arg6 harg6 arg7 harg7 arg8 harg8)
        fun r => iprop(⌜r = ⟨k0_pay7 X2, v15 X1 X2, v22 X1 X2, X4⟩⌝ ∗ pt c arg1 f1 ∗ pt c arg2 f2 ∗ pt c arg4 f4 ∗ (∃ g7, pt c arg7 g7)
          ∗ ∃ g8, pt c arg8 g8 ∗ ⌜Band (arg8.view.read (Elt F) g8) 0 1 16 (rsT X1 X2)⌝) := by
  simp only [k0_part2_eq_skeleton]; unfold k0_part2_skel
  iintro ⟨H1, H2, H4, H7, H8⟩
  sl_exec
  have e2 : View.readAt (Elt F) arg2.view (Rect.unit (s := S1x2048x512) ![0, 0, 0] S1x2048x512.size inb_S1x2048x512_S1x2048x512_0_0_0).toLoadRect f2 = X2 := by rw [View.readAt_full]; exact h2
  rw [e2]
  rw [wp_bind]
  iapply (wp_wand_r frame (wpE (defs₀ (F := F)) Variants.none (c : Thread nD τ) none) Set.univ)
  isplitl [H1 H7]
  · iapply (loop1 c i arg1 harg1 arg2 harg2 arg3 harg3 arg4 harg4 arg5 harg5 arg6 harg6 arg7 harg7 arg8 harg8 X1 X2 f1 h1 f7)
    isplitl [H1]; · iexact H1
    iexact H7
  iintro %r ⟨%hr, H1, ⟨%g7, H7, %h7⟩⟩
  subst hr
  rw [wp_bind]
  iapply (wp_wand_r frame (wpE (defs₀ (F := F)) Variants.none (c : Thread nD τ) none) Set.univ)
  isplitl [H7]
  · iapply (loop2 c i arg1 harg1 arg2 harg2 arg3 harg3 arg4 harg4 arg5 harg5 arg6 harg6 arg7 harg7 arg8 harg8 X1 X2 g7 h7)
    iexact H7
  iintro %r ⟨%hr, H7⟩
  subst hr
  rw [wp_bind]
  iapply (wp_wand_r frame (wpE (defs₀ (F := F)) Variants.none (c : Thread nD τ) none) Set.univ)
  isplitl [H7 H8]
  · iapply (loop3 c i arg1 harg1 arg2 harg2 arg3 harg3 arg4 harg4 arg5 harg5 arg6 harg6 arg7 harg7 arg8 harg8 X1 X2 g7 f8 h7)
    isplitl [H7]; · iexact H7
    iexact H8
  iintro %_ ⟨H7, ⟨%g8, H8, %h8⟩⟩
  sl_exec
  have e0 : View.readAt (Elt F) arg8.view (Rect.unit (s := S2048x128) ![0, 0] S2048x1.size inb_S2048x128_S2048x1_0_0).toLoadRect g8 = rows (rsT X1 X2) := by rw [View.readAt_unit _ _ _ rfl _]; exact h8.whole rfl _
  have h6 : Band (arg8.view.read (Elt F) (arg8.view.writes (Elt F) g8 [⟨Rect.unit (s := S2048x128) ![0, 6] S2048x1.size inb_S2048x128_S2048x1_0_6, k0_pay18 (F := F) (car X1 X2 16).1⟩])) 6 1 16 (csT X1 X2) := by
    rw [read_put]; exact Band.of_put (n := 2048) _ _ (by decide) rfl _
  have h0 : Band (arg8.view.read (Elt F) (arg8.view.writes (Elt F) g8 [⟨Rect.unit (s := S2048x128) ![0, 6] S2048x1.size inb_S2048x128_S2048x1_0_6, k0_pay18 (F := F) (car X1 X2 16).1⟩])) 0 1 16 (rsT X1 X2) := by
    rw [read_put]; exact h8.beside rfl (by decide)
  rw [wp_bind]
  iapply (wp_wand_r frame (wpE (defs₀ (F := F)) Variants.none (c : Thread nD τ) none) Set.univ)
  isplitl [H8]
  · iapply (loop4 c i arg1 harg1 arg2 harg2 arg3 harg3 arg4 harg4 arg5 harg5 arg6 harg6 arg7 harg7 arg8 harg8 X1 X2 _ h0 h6)
    iexact H8
  iintro %_ ⟨%g8', H8, %h8'⟩
  obtain ⟨k0, k6, k2⟩ := h8'
  sl_exec
  have e21 : View.readAt (Elt F) arg8.view (Rect.unit (s := S2048x128) ![0, 2] S2048x1.size inb_S2048x128_S2048x1_0_2).toLoadRect g8' = rows (rkcT X1 X2) := by rw [View.readAt_unit _ _ _ rfl _]; exact k2.whole rfl _
  have e4 : View.readAt (Elt F) arg4.view (Rect.unit (s := S1x2048x3) ![0, 0, 0] S1x2048x3.size inb_S1x2048x3_S1x2048x3_0_0_0).toLoadRect f4 = X4 := by rw [View.readAt_full]; exact h4
  rw [e0, e21, e4]
  sl_step
  isplitr; · ipureintro; rfl
  isplitl [H1]; · iexact H1
  isplitl [H2]; · iexact H2
  isplitl [H4]; · iexact H4
  isplitl [H7]; · iexists g7; iexact H7
  iexists g8'
  isplitl [H8]; · iexact H8
  ipureintro; exact k0

/-- The other five loops, from the row sums to the ranks of the best probabilities. -/
theorem part3 (X1 X2 : Vec F S1x2048x512 .f32) (X3 X4 : Vec F S1x2048x3 .f32)
    (f1 : BufTy.Contents (Elt F) arg1.view.ty) (h1 : arg1.view.read (Elt F) f1 = X1)
    (f3 : BufTy.Contents (Elt F) arg3.view.ty) (h3 : arg3.view.read (Elt F) f3 = X3)
    (f7 : BufTy.Contents (Elt F) arg7.view.ty) (f8 : BufTy.Contents (Elt F) arg8.view.ty)
    (h8 : Band (arg8.view.read (Elt F) f8) 0 1 16 (rsT X1 X2)) :
    iprop(pt c arg1 f1 ∗ pt c arg3 f3 ∗ pt c arg7 f7 ∗ pt c arg8 f8)
      ⊢ wp frame (wpE (defs₀ (F := F)) Variants.none (c : Thread nD τ) none) Set.univ (k0_part3 (F := F) i arg1 harg1 arg2 harg2 arg3 harg3 arg4 harg4 arg5 harg5 arg6 harg6 arg7 harg7 arg8 harg8 (k0_pay7 X2) (v15 X1 X2) (v22 X1 X2) X4)
        fun _ => iprop(pt c arg1 f1 ∗ pt c arg3 f3 ∗ (∃ g7, pt c arg7 g7)
          ∗ ∃ g8, pt c arg8 g8 ∗ ⌜Band (arg8.view.read (Elt F) g8) 12 3 11 (spT X1 X2 X3) ∧ Band (arg8.view.read (Elt F) g8) 3 3 11 (cdT X1 X2 X4)
            ∧ Band (arg8.view.read (Elt F) g8) 2 1 11 (rkvT X1 X2)⌝) := by
  simp only [k0_part3_eq_skeleton]; unfold k0_part3_skel
  iintro ⟨H1, H3, H7, H8⟩
  rw [wp_bind]
  iapply (wp_wand_r frame (wpE (defs₀ (F := F)) Variants.none (c : Thread nD τ) none) Set.univ)
  isplitl [H7 H8]
  · iapply (loop5 c i arg1 harg1 arg2 harg2 arg3 harg3 arg4 harg4 arg5 harg5 arg6 harg6 arg7 harg7 arg8 harg8 X1 X2 X4 f7 f8 h8)
    isplitl [H7]; · iexact H7
    iexact H8
  iintro %_ ⟨%g7, %g8, H7, H8, %hB⟩
  obtain ⟨a7, a0, a8⟩ := hB
  rw [wp_bind]
  iapply (wp_wand_r frame (wpE (defs₀ (F := F)) Variants.none (c : Thread nD τ) none) Set.univ)
  isplitl [H8]
  · iapply (loop6 c i arg1 harg1 arg2 harg2 arg3 harg3 arg4 harg4 arg5 harg5 arg6 harg6 arg7 harg7 arg8 harg8 X1 X2 X4 g8 a0 a8)
    iexact H8
  iintro %_ ⟨%g8a, H8, %hB⟩
  obtain ⟨b0, b8, b2⟩ := hB
  sl_exec
  have e27 : View.readAt (Elt F) arg8.view (Rect.unit (s := S2048x128) ![0, 2] S2048x1.size inb_S2048x128_S2048x1_0_2).toLoadRect g8a = v27 X1 X2 := by rw [View.readAt_unit _ _ _ rfl _]; exact b2.whole rfl _
  have e1 : View.readAt (Elt F) arg1.view (Rect.unit (s := S1x2048x512) ![0, 0, 0] S1x2048x512.size inb_S1x2048x512_S1x2048x512_0_0_0).toLoadRect f1 = X1 := by rw [View.readAt_full]; exact h1
  have e3 : View.readAt (Elt F) arg3.view (Rect.unit (s := S1x2048x3) ![0, 0, 0] S1x2048x3.size inb_S1x2048x3_S1x2048x3_0_0_0).toLoadRect f3 = X3 := by rw [View.readAt_full]; exact h3
  rw [e27, e1, e3]
  rw [wp_bind]
  iapply (wp_wand_r frame (wpE (defs₀ (F := F)) Variants.none (c : Thread nD τ) none) Set.univ)
  isplitl [H7 H8]
  · iapply (loop7 c i arg1 harg1 arg2 harg2 arg3 harg3 arg4 harg4 arg5 harg5 arg6 harg6 arg7 harg7 arg8 harg8 X1 X2 X3 X4 g7 g8a a7 b8)
    isplitl [H7]; · iexact H7
    iexact H8
  iintro %_ ⟨%g7b, %g8b, H7, H8, %hB⟩
  obtain ⟨d7, s7, d8, s8⟩ := hB
  sl_exec
  have e34 : View.readAt (Elt F) arg7.view (Rect.unit (s := S2048x2048) ![0, 512] S1408x512.size inb_S2048x2048_S1408x512_0_512).toLoadRect g7b = v34 X1 X2 := by rw [View.readAt_unit _ _ _ rfl _]; exact d7.whole rfl _
  have e39 : View.readAt (Elt F) arg8.view (Rect.unit (s := S2048x128) ![0, 8] S1408x3.size inb_S2048x128_S1408x3_0_8).toLoadRect g8b = v39 X1 X2 X4 := by rw [View.readAt_unit _ _ _ rfl _]; exact d8.whole rfl _
  rw [e34, e39]
  rw [wp_bind]
  iapply (wp_wand_r frame (wpE (defs₀ (F := F)) Variants.none (c : Thread nD τ) none) Set.univ)
  isplitl [H7 H8]
  · iapply (loop8 c i arg1 harg1 arg2 harg2 arg3 harg3 arg4 harg4 arg5 harg5 arg6 harg6 arg7 harg7 arg8 harg8 X1 X2 X3 X4 g7b g8b s7 s8)
    isplitl [H7]; · iexact H7
    iexact H8
  iintro %_ ⟨H7, ⟨%g8c, H8, %hB⟩⟩
  obtain ⟨s8', c3, l1⟩ := hB
  sl_exec
  have e41 : View.readAt (Elt F) arg8.view (Rect.unit (s := S2048x128) ![0, 1] S1408x1.size inb_S2048x128_S1408x1_0_1).toLoadRect g8c = v41 X1 X2 := by rw [View.readAt_unit _ _ _ rfl _]; exact l1.whole rfl _
  rw [e41]
  rw [wp_bind]
  iapply (wp_wand_r frame (wpE (defs₀ (F := F)) Variants.none (c : Thread nD τ) none) Set.univ)
  isplitl [H8]
  · iapply (loop9 c i arg1 harg1 arg2 harg2 arg3 harg3 arg4 harg4 arg5 harg5 arg6 harg6 arg7 harg7 arg8 harg8 X1 X2 X3 X4 g8c l1 s8' c3)
    iexact H8
  iintro %_ ⟨%g8d, H8, %hB⟩
  obtain ⟨_, s, cd, rk⟩ := hB
  sl_step
  isplitl [H1]; · iexact H1
  isplitl [H3]; · iexact H3
  isplitl [H7]; · iexists g7b; iexact H7
  iexists g8d
  isplitl [H8]; · iexact H8
  ipureintro; exact ⟨s, cd, rk⟩

/-- **One grid point.** The two output blocks end at `outB` and `corrB` of the input blocks. -/
theorem bodyRun (X1 X2 : Vec F S1x2048x512 .f32) (X3 X4 : Vec F S1x2048x3 .f32)
    (f1 : BufTy.Contents (Elt F) arg1.view.ty) (h1 : arg1.view.read (Elt F) f1 = X1)
    (f2 : BufTy.Contents (Elt F) arg2.view.ty) (h2 : arg2.view.read (Elt F) f2 = X2)
    (f3 : BufTy.Contents (Elt F) arg3.view.ty) (h3 : arg3.view.read (Elt F) f3 = X3)
    (f4 : BufTy.Contents (Elt F) arg4.view.ty) (h4 : arg4.view.read (Elt F) f4 = X4)
    (f5 : BufTy.Contents (Elt F) arg5.view.ty) (f6 : BufTy.Contents (Elt F) arg6.view.ty)
    (f7 : BufTy.Contents (Elt F) arg7.view.ty) (f8 : BufTy.Contents (Elt F) arg8.view.ty) :
    iprop(pt c arg1 f1 ∗ pt c arg2 f2 ∗ pt c arg3 f3 ∗ pt c arg4 f4 ∗ pt c arg5 f5 ∗ pt c arg6 f6 ∗ pt c arg7 f7 ∗ pt c arg8 f8)
      ⊢ wp frame (wpE (defs₀ (F := F)) Variants.none (c : Thread nD τ) none) Set.univ (cc0_body (F := F) i arg1 harg1 arg2 harg2 arg3 harg3 arg4 harg4 arg5 harg5 arg6 harg6 arg7 harg7 arg8 harg8)
        fun _ => iprop(pt c arg1 f1 ∗ pt c arg2 f2 ∗ pt c arg3 f3 ∗ pt c arg4 f4
          ∗ (∃ g5, pt c arg5 g5 ∗ ⌜arg5.view.read (Elt F) g5 = outB X1 X2 X3⌝) ∗ (∃ g6, pt c arg6 g6 ∗ ⌜arg6.view.read (Elt F) g6 = corrB X1 X2 X4⌝)
          ∗ (∃ g7, pt c arg7 g7) ∗ ∃ g8, pt c arg8 g8) := by
  simp only [cc0_body_eq_skeleton]; unfold cc0_body_skel
  iintro ⟨H1, H2, H3, H4, H5, H6, H7, H8⟩
  rw [wp_bind]
  iapply (wp_wand_r frame (wpE (defs₀ (F := F)) Variants.none (c : Thread nD τ) none) Set.univ)
  isplitl [H1 H2 H4 H7 H8]
  · iapply (part2 c i arg1 harg1 arg2 harg2 arg3 harg3 arg4 harg4 arg5 harg5 arg6 harg6 arg7 harg7 arg8 harg8 X1 X2 X4 f1 h1 f2 h2 f4 h4 f7 f8)
    isplitl [H1]; · iexact H1
    isplitl [H2]; · iexact H2
    isplitl [H4]; · iexact H4
    isplitl [H7]; · iexact H7
    iexact H8
  iintro %r ⟨%hr, H1, H2, H4, ⟨%g7, H7⟩, ⟨%g8, H8, %h8⟩⟩
  subst hr
  rw [wp_bind]
  iapply (wp_wand_r frame (wpE (defs₀ (F := F)) Variants.none (c : Thread nD τ) none) Set.univ)
  isplitl [H1 H3 H7 H8]
  · iapply (part3 c i arg1 harg1 arg2 harg2 arg3 harg3 arg4 harg4 arg5 harg5 arg6 harg6 arg7 harg7 arg8 harg8 X1 X2 X3 X4 f1 h1 f3 h3 g7 g8 h8)
    isplitl [H1]; · iexact H1
    isplitl [H3]; · iexact H3
    isplitl [H7]; · iexact H7
    iexact H8
  iintro %_ ⟨H1, H3, ⟨%g7', H7⟩, ⟨%g8', H8, %hB⟩⟩
  obtain ⟨sp, cd, rk⟩ := hB
  have e44 : View.readAt (Elt F) arg8.view (Rect.unit (s := S2048x128) ![0, 2] S1408x1.size inb_S2048x128_S1408x1_0_2).toLoadRect g8' = v44 X1 X2 := by rw [View.readAt_unit _ _ _ rfl _]; exact rk.whole rfl _
  have e57 : View.readAt (Elt F) arg8.view (Rect.unit (s := S2048x128) ![0, 12] S1408x3.size inb_S2048x128_S1408x3_0_12).toLoadRect g8' = rows (spT X1 X2 X3) := by rw [View.readAt_unit _ _ _ rfl _]; exact sp.whole rfl _
  have e62 : View.readAt (Elt F) arg8.view (Rect.unit (s := S2048x128) ![0, 3] S1408x3.size inb_S2048x128_S1408x3_0_3).toLoadRect g8' = rows (cdT X1 X2 X4) := by rw [View.readAt_unit _ _ _ rfl _]; exact cd.whole rfl _
  sl_exec
  sl_step
  isplitl [H1]; · iexact H1
  isplitl [H2]; · iexact H2
  isplitl [H3]; · iexact H3
  isplitl [H4]; · iexact H4
  isplitl [H5]
  · iexists _
    isplitl [H5]; · iexact H5
    ipureintro; exact View.read_writes_full _ _ _ _ []
  isplitl [H6]
  · iexists _
    isplitl [H6]; · iexact H6
    ipureintro; exact View.read_writes_full _ _ _ _ []
  isplitl [H7]; · iexists g7'; iexact H7
  iexists g8'; iexact H8

end Cert.Proof.KI

end
-- ==== Proof.Dats.lean ====
/-
  The pipeline's run from the body's: at each point the two output blocks are `outB` and `corrB` of the point's input
  blocks. From it, the frame (the arguments end as launched, every counter at zero) and the run's post.
-/
module

public import proofs.«01_k».proof.Proof.Body.Run

@[expose] public section

set_option maxRecDepth 16384

noncomputable section

namespace Cert.Proof.KI

open Cert.KernelIdeal Cert.KernelIdeal.Gen Cert.Proof
open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Owning a whole array is owning its one memory block. -/
theorem pt_whole (c : Dev nD) (b : Ref sig .tc) (f : Buf (Elt F) ((c : Thread nD τ).loc b)) :
    pt c (Memref.whole b) f = (((c : Thread nD τ).loc b) ↦{fullShare} f : sProp 𝕄) := by
  unfold pt; rw [show (Memref.whole b).view.set = Finset.univ from View.set_whole b]

/-- The launch's data: what each window's array holds at the start and what its block holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (iblk m c 0 t) (iblk m c 1 t) (iblk m c 2 t)
    | ⟨5, _⟩ => corrB (iblk m c 0 t) (iblk m c 1 t) (iblk m c 3 t)
  Φ _ := Pipeline.ΦA spec0 c
  q _ := fullShare
  owed _ := 0

/-- Each window's array starts as the host lines before the launch leave it. -/
theorem A_eq (c : Dev nD) (w : Fin cfg0.W) : (dats m 0 c).A w = V m c (Pipeline.arrRef spec0 w) := by
  dsimp only [dats]

/-- What a point's body is given: the blocks it reads, the blocks it writes and its scratch. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What a point's body gives back: the same blocks, the written ones at their new contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Each point's body, on what the pipeline hands it. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦA spec0 c from rfl]
  unfold Pipeline.ΦA
  rw [scopedRest0_eq]
  rw [show (dats m 0 c).after 0 t = iblk m c 0 t from rfl]; simp only [before0_0_of m (dats m 0 c) (A_eq m c 0) (fun _ => rfl) t]
  rw [show (dats m 0 c).after 1 t = iblk m c 1 t from rfl]; simp only [before0_1_of m (dats m 0 c) (A_eq m c 1) (fun _ => rfl) t]
  rw [show (dats m 0 c).after 2 t = iblk m c 2 t from rfl]; simp only [before0_2_of m (dats m 0 c) (A_eq m c 2) (fun _ => rfl) t]
  rw [show (dats m 0 c).after 3 t = iblk m c 3 t from rfl]; simp only [before0_3_of m (dats m 0 c) (A_eq m c 3) (fun _ => rfl) t]
  rw [show (dats m 0 c).after 4 t = outB (iblk m c 0 t) (iblk m c 1 t) (iblk m c 2 t) from rfl,
    show (dats m 0 c).after 5 t = corrB (iblk m c 0 t) (iblk m c 1 t) (iblk m c 3 t) from rfl]
  unfold Dat.owesAt Pipeline.owesWithin
  rw [show (dats m 0 c).owed t.castSucc = 0 from rfl, show (dats m 0 c).owed t.succ = 0 from rfl]
  unfold owns
  iintro ⟨⟨⟨⟨%s7, HS7⟩, ⟨%s8, HS8⟩⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (wp_wand_r frame (wpE (defs₀ (F := F)) Variants.none (c : Thread nD τ) none) Set.univ)
  isplitl [HS7 HS8 H0 H1 H2 H3 H4 H5]
  · iapply (bodyRun c _ _ _ _ _ _ _ _ _ _ _ _ _ (Memref.whole cc0_scratch0) _ (Memref.whole cc0_scratch1) _ (iblk m c 0 t) (iblk m c 1 t) (iblk m c 2 t) (iblk m c 3 t) f0 e0 f1 e1 f2 e2 f3 e3 f4 f5 s7 s8)
    isplitl [H0]; · iexact H0
    isplitl [H1]; · iexact H1
    isplitl [H2]; · iexact H2
    isplitl [H3]; · iexact H3
    isplitl [H4]; · iexact H4
    isplitl [H5]; · iexact H5
    isplitl [HS7]; · rw [pt_whole]; iexact HS7
    rw [pt_whole]; iexact HS8
  iintro %_ ⟨H0, H1, H2, H3, ⟨%g4, H4, %h4⟩, ⟨%g5, H5, %h5⟩, ⟨%g7, HS7⟩, ⟨%g8, HS8⟩⟩
  isplitl [HS7 HS8 Hg]
  · isplitl [HS7 HS8]
    · isplitl [HS7]
      · iexists g7; rw [pt_whole]; exact .rfl
      iexists g8; rw [pt_whole]; exact .rfl
    iexact Hg
  isplitl [HW]
  · iexists W; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists g4; isplitr; · ipureintro; exact h4
    iexact H4
  iexists g5; isplitr; · ipureintro; exact h5
  iexact H5

/-- The launch's body at a point is the printed body. -/
theorem defs₀_row (t : Fin cfg0.N) :
    defs₀ (F := F) .tc cfg0.body (cfg0.bodyArgs t (cfg0.slots t)) = bodyAt0 t := by
  unfold defs₀; rw [Defs.onTc_tc]

/-- Every point's body runs from what it is given to what it gives back. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- **The run.** The arrays end at the points' blocks, the rest as the host's lines leave it, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- **The frame.** The arguments end as launched and every counter ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩) (run_main m ρ)

end Cert.Proof.KI

end
-- ==== Proof.Value.Order.lean ====
/-
  Ranks in a row of extended reals: the greatest first and equal entries in order of position. `pick v r` is the
  position that a stable sort puts at place `r`, `rank v i` counts the entries ahead of position `i`, and the two are
  inverse to each other.
-/
module

public import Idealize.ShloMosaic.Lib.SortFacts
public import Idealize.ShloMosaic.Lib.Pointwise

@[expose] public section

noncomputable section

namespace Cert.Proof.Spec

open Idealize.ShloMosaic

variable {n : ℕ}

/-- Entry `a` stands ahead of entry `b`: it is greater, or equal and at an earlier position. -/
def Ahead (v : Fin n → EReal) (a b : Fin n) : Prop := v b < v a ∨ (v a = v b ∧ a < b)

/-- The strict comparison of the entries, as a stable sort uses it. -/
def before (v : Fin n → EReal) (a b : Fin n) : Bool := FloatOps.cmpfTotal (F := Ideal) (φ := .f32) .gt (v a) (v b) == 1#1

/-- The position whose entry comes at place `r`. -/
def pick (v : Fin n → EReal) (r : Fin n) : Fin n := sortedFrom (before v) r

open Classical in
/-- How many entries stand ahead of entry `i`. -/
def rank (v : Fin n → EReal) (i : Fin n) : ℕ := (Finset.univ.filter fun j => Ahead v j i).card

/-- The sort's comparison: one goes before another when its value is greater. -/
theorem before_iff (v : Fin n → EReal) (a b : Fin n) : before v a b = true ↔ v b < v a := by
  show (BitVec.ofBool (decide (v b < v a)) == 1#1) = true ↔ _
  by_cases h : v b < v a <;> simp [h]

/-- Nothing is ahead of itself. -/
theorem Ahead.irrefl (v : Fin n → EReal) (a : Fin n) : ¬ Ahead v a a := by
  rintro (h | ⟨_, h⟩) <;> exact lt_irrefl _ h

/-- Being ahead is transitive. -/
theorem Ahead.trans {v : Fin n → EReal} {a b c : Fin n} (h : Ahead v a b) (h' : Ahead v b c) : Ahead v a c := by
  rcases h with h | ⟨h, h1⟩ <;> rcases h' with h' | ⟨h', h2⟩
  · exact .inl (h'.trans h)
  · exact .inl (h' ▸ h)
  · exact .inl (h ▸ h')
  · exact .inr ⟨h.trans h', h1.trans h2⟩

/-- Of two different places one is ahead of the other. -/
theorem Ahead.total {v : Fin n → EReal} {a b : Fin n} (h : a ≠ b) : Ahead v a b ∨ Ahead v b a := by
  rcases lt_trichotomy (v a) (v b) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- Inserting an earlier place keeps a list in order. -/
theorem insert_pairwise (v : Fin n → EReal) (a : Fin n) (l : List (Fin n)) (hl : l.Pairwise (Ahead v))
    (ha : ∀ b ∈ l, a < b) : (insertBefore (before v) a l).Pairwise (Ahead v) := by
  induction l with
  | nil => exact List.pairwise_singleton _ _
  | cons b l ih =>
    have hb := List.pairwise_cons.1 hl
    unfold insertBefore
    split
    next h =>
      rw [before_iff] at h
      refine List.pairwise_cons.2 ⟨fun c hc => ?_, ih hb.2 fun c hc => ha c (List.mem_cons_of_mem _ hc)⟩
      rcases List.mem_cons.1 ((perm_insertBefore (before v) a l).mem_iff.1 hc) with rfl | hc
      · exact .inl h
      · exact hb.1 c hc
    next h =>
      rw [before_iff, not_lt] at h
      have hab : Ahead v a b := by
        rcases lt_or_eq_of_le h with h | h
        · exact .inl h
        · exact .inr ⟨h.symm, ha b List.mem_cons_self⟩
      refine List.pairwise_cons.2 ⟨fun c hc => ?_, hl⟩
      rcases List.mem_cons.1 hc with rfl | hc
      · exact hab
      · exact hab.trans (hb.1 c hc)

/-- The stable sort puts the places in order, the one ahead first. -/
theorem stableSort_pairwise (v : Fin n → EReal) (l : List (Fin n)) (hl : l.Pairwise (· < ·)) :
    (stableSort (before v) l).Pairwise (Ahead v) := by
  induction l with
  | nil => exact List.Pairwise.nil
  | cons a l ih =>
    have h := List.pairwise_cons.1 hl
    exact insert_pairwise v a _ (ih h.2) fun b hb => h.1 b ((perm_stableSort (before v) l).mem_iff.1 hb)

/-- Places and the order agree. -/
theorem pick_ahead (v : Fin n → EReal) {r s : Fin n} (h : r < s) : Ahead v (pick v r) (pick v s) := by
  have hp : (sortPositions n (before v)).Pairwise (Ahead v) :=
    stableSort_pairwise v _ (List.pairwise_lt_finRange n)
  exact List.pairwise_iff_get.1 hp _ _ h

/-- An earlier position of the sorted list holds a place ahead. -/
theorem pick_ahead_iff (v : Fin n → EReal) (r s : Fin n) : Ahead v (pick v r) (pick v s) ↔ r < s := by
  refine ⟨fun h => ?_, pick_ahead v⟩
  rcases lt_trichotomy r s with h1 | h1 | h1
  · exact h1
  · exact absurd (h1 ▸ h) (Ahead.irrefl v _)
  · exact absurd (h.trans (pick_ahead v h1)) (Ahead.irrefl v _)

/-- The sorted list holds each place once. -/
theorem pick_bijective (v : Fin n → EReal) : Function.Bijective (pick v) :=
  ⟨sortedFrom_injective _, sortedFrom_surjective _⟩

/-- The entry at place `r` has `r` entries ahead of it. -/
theorem rank_pick (v : Fin n → EReal) (r : Fin n) : rank v (pick v r) = r.val := by
  classical
  unfold rank
  rw [← Fin.card_Iio r]
  symm
  refine Finset.card_bij (fun s _ => pick v s) ?_ ?_ ?_
  · intro s hs
    exact Finset.mem_filter.2 ⟨Finset.mem_univ _, (pick_ahead_iff v s r).2 (Finset.mem_Iio.1 hs)⟩
  · intro a _ b _ h
    exact (pick_bijective v).1 h
  · intro b hb
    obtain ⟨s, rfl⟩ := (pick_bijective v).2 b
    exact ⟨s, Finset.mem_Iio.2 ((pick_ahead_iff v s r).1 (Finset.mem_filter.1 hb).2), rfl⟩

/-- The entry with `r` entries ahead of it is the one at place `r`. -/
theorem rank_eq_iff (v : Fin n → EReal) (i r : Fin n) : rank v i = r.val ↔ i = pick v r := by
  obtain ⟨s, rfl⟩ := (pick_bijective v).2 i
  rw [rank_pick]
  exact ⟨fun h => congrArg _ (Fin.ext h), fun h => congrArg _ ((pick_bijective v).1 h)⟩

/-- A rank is less than the number of places. -/
theorem rank_lt (v : Fin n → EReal) (i : Fin n) : rank v i < n := by
  obtain ⟨s, rfl⟩ := (pick_bijective v).2 i
  rw [rank_pick]; exact s.isLt

/-- A row put before entries `⊥` keeps its ranks. -/
theorem rank_pad {m : ℕ} (h : n ≤ m) (v : Fin n → EReal) (w : Fin m → EReal) (h1 : ∀ i, w (Fin.castLE h i) = v i)
    (h2 : ∀ j : Fin m, n ≤ j.val → w j = ⊥) (i : Fin n) : rank w (Fin.castLE h i) = rank v i := by
  classical
  unfold rank
  symm
  refine Finset.card_bij (fun s _ => Fin.castLE h s) ?_ ?_ ?_
  · intro s hs
    have hs := (Finset.mem_filter.1 hs).2
    refine Finset.mem_filter.2 ⟨Finset.mem_univ _, ?_⟩
    unfold Ahead at *
    rw [h1, h1]; exact hs
  · intro a _ b _ h'
    exact Fin.castLE_injective h h'
  · intro b hb
    have hb := (Finset.mem_filter.1 hb).2
    by_cases hbn : b.val < n
    · refine ⟨⟨b.val, hbn⟩, Finset.mem_filter.2 ⟨Finset.mem_univ _, ?_⟩, rfl⟩
      have e : b = Fin.castLE h ⟨b.val, hbn⟩ := rfl
      unfold Ahead at *
      rw [e, h1, h1] at hb
      exact hb
    · exfalso
      rcases hb with hb | ⟨_, hb⟩
      · rw [h2 b (not_lt.1 hbn)] at hb; exact not_lt_bot hb
      · exact hbn (lt_trans (show b.val < i.val from hb) i.isLt)

/-- The entries `⊥` put behind a row rank behind all of it. -/
theorem rank_pad_ge {m : ℕ} (h : n ≤ m) (w : Fin m → EReal)
    (h2 : ∀ j : Fin m, n ≤ j.val → w j = ⊥) (j : Fin m) (hj : n ≤ j.val) : n ≤ rank w j := by
  classical
  unfold rank
  rw [← Finset.card_fin n]
  refine Finset.card_le_card_of_injOn (fun s => Fin.castLE h s) ?_ fun a _ b _ h' => Fin.castLE_injective h h'
  intro s _
  refine Finset.mem_coe.2 (Finset.mem_filter.2 ⟨Finset.mem_univ _, ?_⟩)
  unfold Ahead
  rw [h2 j hj]
  rcases (bot_le : ⊥ ≤ w (Fin.castLE h s)).lt_or_eq with h' | h'
  · exact .inl h'
  · exact .inr ⟨h'.symm, show s.val < j.val from lt_of_lt_of_le s.isLt hj⟩

/-- The first place holds the greatest entry. -/
theorem pick_zero (v : Fin n → EReal) (h : 0 < n) : v (pick v ⟨0, h⟩) = Finset.univ.sup v := by
  refine le_antisymm (Finset.le_sup (f := v) (Finset.mem_univ _)) (Finset.sup_le fun i _ => ?_)
  obtain ⟨s, rfl⟩ := (pick_bijective v).2 i
  by_cases hs : s = ⟨0, h⟩
  · rw [hs]
  · have : (⟨0, h⟩ : Fin n) < s := by
      show 0 < s.val
      exact Nat.pos_of_ne_zero fun e => hs (Fin.ext e)
    rcases pick_ahead v this with h' | h'
    · exact h'.le
    · exact h'.1.ge

/-- … and no earlier position holds it. -/
theorem pick_zero_le (v : Fin n → EReal) (h : 0 < n) (i : Fin n) (hi : v i = Finset.univ.sup v) : pick v ⟨0, h⟩ ≤ i := by
  by_contra hc
  have hlt : i < pick v ⟨0, h⟩ := not_le.1 hc
  obtain ⟨s, rfl⟩ := (pick_bijective v).2 i
  have := (pick_ahead_iff v s ⟨0, h⟩).1 (.inr ⟨hi.trans (pick_zero v h).symm, hlt⟩)
  exact absurd this (Nat.not_lt_zero _)

/-- A sum against the indicator of one position is the entry there. -/
theorem sum_indicator (p : Fin n → Prop) [DecidablePred p] (x : Fin n → EReal) (i : Fin n) (hp : ∀ j, p j ↔ j = i) :
    ∑ j, (if p j then (1 : EReal) else 0) * x j = x i := by
  rw [Finset.sum_eq_single i]
  · rw [if_pos ((hp i).2 rfl), one_mul]
  · intro j _ hj
    rw [if_neg (fun h => hj ((hp j).1 h)), zero_mul]
  · intro h; exact absurd (Finset.mem_univ i) h

/-- A sum against an indicator that holds nowhere is zero. -/
theorem sum_indicator_none (p : Fin n → Prop) [DecidablePred p] (x : Fin n → EReal) (hp : ∀ j, ¬ p j) :
    ∑ j, (if p j then (1 : EReal) else 0) * x j = 0 :=
  Finset.sum_eq_zero fun j _ => by rw [if_neg (hp j), zero_mul]

open Classical in
/-- The sum of an indicator counts. -/
theorem sum_count (p : Fin n → Prop) : ∑ j, (if p j then (1 : EReal) else 0) = ((Finset.univ.filter p).card : EReal) := by
  rw [Finset.card_filter, Nat.cast_sum]
  exact Finset.sum_congr rfl fun j _ => by split <;> simp

end Cert.Proof.Spec

end
-- ==== Proof.Value.Soft.lean ====
/-
  The scores and their softmax over the extended reals, as the mathematics writes them, and the facts about them that
  the two programs need: a row padded with `⊥`, and rows whose entries are all real.
-/
module

public import proofs.«01_k».proof.Proof.Value.Order

@[expose] public section

noncomputable section

namespace Cert.Proof.Spec

open Idealize.ShloMosaic

variable {n m d : ℕ}

/-- Minus the squared distance of two points, from their inner product and their squared norms. -/
def score (x : Fin n → Fin d → EReal) (y : Fin m → Fin d → EReal) (i : Fin n) (j : Fin m) : EReal :=
  2 * (∑ k, x i k * y j k) - (∑ k, x i k * x i k) - ∑ k, y j k * y j k

/-- The greatest entry of a row. -/
def top (s : Fin n → EReal) : EReal := Finset.univ.sup s

/-- The softmax of a row. -/
def soft (s : Fin n → EReal) (j : Fin n) : EReal :=
  Ideal.div (Ideal.exp (s j - top s)) (∑ j', Ideal.exp (s j' - top s))

/-- Folding the maximum from minus infinity is the greatest entry. -/
theorem fold_max (s : Fin n → EReal) : Finset.univ.fold max ⊥ s = top s := rfl

/-- Every entry is at most the greatest. -/
theorem le_top' (s : Fin n → EReal) (j : Fin n) : s j ≤ top s := Finset.le_sup (f := s) (Finset.mem_univ j)

/-- The greatest entry is at most any bound of the entries. -/
theorem top_le {s : Fin n → EReal} {a : EReal} (h : ∀ j, s j ≤ a) : top s ≤ a := Finset.sup_le fun j _ => h j

/-- Equal entries have the same greatest entry. -/
theorem top_congr {s s' : Fin n → EReal} (h : ∀ j, s j = s' j) : top s = top s' := congrArg top (funext h)

/-- An exponential is not negative. -/
theorem exp_nonneg (a : EReal) : 0 ≤ Ideal.exp a := by
  induction a using EReal.rec with
  | bot => exact le_rfl
  | top => exact le_top
  | coe r => exact EReal.coe_nonneg.2 (Real.exp_pos r).le

/-- A quotient of two non-negative numbers, the lower one not zero, is not negative. -/
theorem div_nonneg' {a b : EReal} (ha : 0 ≤ a) (hb : 0 ≤ b) (h : b ≠ 0) : 0 ≤ Ideal.div a b := by
  unfold Ideal.div
  rw [if_neg h]
  exact EReal.mul_nonneg ha (EReal.inv_nonneg_of_nonneg hb)

/-- A sum of reals, taken among the extended reals. -/
theorem coe_sum' (f : Fin n → ℝ) : ((∑ k, f k : ℝ) : EReal) = ∑ k, (f k : EReal) := by
  classical
  refine Finset.induction_on (Finset.univ : Finset (Fin n)) (by simp) fun a S ha ih => ?_
  rw [Finset.sum_insert ha, Finset.sum_insert ha, EReal.coe_add, ih]

/-- A real row's softmax is real and positive. -/
theorem soft_real (s : Fin n → EReal) (h : ∀ j, ∃ r : ℝ, s j = r) (j : Fin n) : ∃ r : ℝ, 0 < r ∧ soft s j = r := by
  have hne : (Finset.univ : Finset (Fin n)).Nonempty := ⟨j, Finset.mem_univ j⟩
  obtain ⟨i, _, hi⟩ := Finset.exists_mem_eq_sup _ hne s
  obtain ⟨t, ht⟩ := h i
  have htop : top s = (t : EReal) := hi.trans ht
  choose f hf using h
  have hexp : ∀ k, Ideal.exp (s k - top s) = (Real.exp (f k - t) : ℝ) := fun k => by
    rw [hf, htop, ← EReal.coe_sub, Ideal.exp_coe]
  have hsum : ∑ k, Ideal.exp (s k - top s) = ((∑ k, Real.exp (f k - t) : ℝ) : EReal) := by
    rw [coe_sum']
    exact Finset.sum_congr rfl fun k _ => hexp k
  have hpos : 0 < ∑ k, Real.exp (f k - t) := Finset.sum_pos (fun k _ => Real.exp_pos _) hne
  refine ⟨Real.exp (f j - t) * (1 / ∑ k, Real.exp (f k - t)), mul_pos (Real.exp_pos _) (one_div_pos.2 hpos), ?_⟩
  unfold soft
  rw [hsum, hexp, Ideal.div_coe hpos.ne', ← EReal.coe_mul]

/-- A positive real over itself is one. -/
theorem div_self' {a : EReal} (h : ∃ r : ℝ, 0 < r ∧ a = r) : Ideal.div a a = 1 := by
  obtain ⟨r, hr, rfl⟩ := h
  rw [Ideal.div_coe hr.ne', ← EReal.coe_mul, mul_one_div_cancel hr.ne', EReal.coe_one]

/-- A sum of real numbers is a real number. -/
theorem real_sum (f : Fin n → EReal) (h : ∀ k, ∃ r : ℝ, f k = r) : ∃ r : ℝ, ∑ k, f k = r := by
  choose g hg using h
  exact ⟨∑ k, g k, by rw [coe_sum']; exact Finset.sum_congr rfl fun k _ => hg k⟩

/-- A product of two real numbers is a real number. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A difference of two real numbers is a real number. -/
theorem real_sub {a b : EReal} (ha : ∃ r : ℝ, a = r) (hb : ∃ r : ℝ, b = r) : ∃ r : ℝ, a - b = r := by
  obtain ⟨r, rfl⟩ := ha
  obtain ⟨s, rfl⟩ := hb
  exact ⟨r - s, (EReal.coe_sub r s).symm⟩

/-- Real points have real scores. -/
theorem score_real (x : Fin n → Fin d → EReal) (y : Fin m → Fin d → EReal) (hx : ∀ i k, ∃ r : ℝ, x i k = r)
    (hy : ∀ j k, ∃ r : ℝ, y j k = r) (i : Fin n) (j : Fin m) : ∃ r : ℝ, score x y i j = r := by
  unfold score
  refine real_sub (real_sub (real_mul ⟨2, rfl⟩ (real_sum _ fun k => real_mul (hx i k) (hy j k))) ?_) ?_
  · exact real_sum _ fun k => real_mul (hx i k) (hx i k)
  · exact real_sum _ fun k => real_mul (hy j k) (hy j k)

/-! ### A row padded with `⊥` -/

section pad
variable (h : n ≤ m) {s : Fin n → EReal} {w : Fin m → EReal} (h1 : ∀ i, w (Fin.castLE h i) = s i)
  (h2 : ∀ j : Fin m, n ≤ j.val → w j = ⊥)
include h1

/-- A property of all positions, from those of the row and those behind it. -/
theorem pad_cases {P : Fin m → Prop} (hl : ∀ i : Fin n, P (Fin.castLE h i)) (hr : ∀ j : Fin m, n ≤ j.val → P j) (j : Fin m) : P j := by
  by_cases hj : j.val < n
  · exact hl ⟨j.val, hj⟩
  · exact hr j (not_lt.1 hj)

/-- Padding by zeros leaves a sum unchanged. -/
theorem sum_pad (h2 : ∀ j : Fin m, n ≤ j.val → w j = 0) : ∑ j, w j = ∑ i, s i := by
  symm
  refine Finset.sum_of_injOn (fun i => Fin.castLE h i) (fun a _ b _ h' => Fin.castLE_injective h h')
    (fun _ _ => Finset.mem_coe.2 (Finset.mem_univ _)) ?_ fun i _ => (h1 i).symm
  intro j _ hj
  refine h2 j (not_lt.1 fun hlt => hj ⟨⟨j.val, hlt⟩, Finset.mem_coe.2 (Finset.mem_univ _), rfl⟩)

/-- Padding by entries no greater leaves the greatest entry unchanged. -/
theorem top_pad' (h2 : ∀ j : Fin m, n ≤ j.val → w j ≤ top s) : top w = top s := by
  refine le_antisymm (top_le (pad_cases h h1 (fun i => ?_) h2)) (top_le fun i => ?_)
  · rw [h1]; exact le_top' s i
  · rw [← h1]; exact le_top' w _

include h2

/-- Padding by minus infinity leaves the greatest entry unchanged. -/
theorem top_pad : top w = top s := top_pad' h h1 fun j hj => by rw [h2 j hj]; exact bot_le

/-- The padded entries have exponential zero. -/
theorem exp_pad (j : Fin m) (hj : n ≤ j.val) : Ideal.exp (w j - top w) = 0 := by
  rw [h2 j hj, EReal.bot_sub]
  rfl

/-- Padding by minus infinity leaves the softmax's denominator unchanged. -/
theorem sum_exp_pad : ∑ j, Ideal.exp (w j - top w) = ∑ i, Ideal.exp (s i - top s) :=
  sum_pad h (fun i => by rw [h1, top_pad h h1 h2]) (exp_pad h h1 h2)

/-- Padding by minus infinity leaves a softmax unchanged. -/
theorem soft_pad (i : Fin n) : soft w (Fin.castLE h i) = soft s i := by
  unfold soft
  rw [sum_exp_pad h h1 h2, top_pad h h1 h2, h1]

/-- The padding never exceeds the softmax's greatest entry. -/
theorem top_soft_pad (hn : 0 < n) : top (soft w) = top (soft s) := by
  refine top_pad' h (soft_pad h h1 h2) fun j hj => ?_
  refine le_trans ?_ (le_top' (soft s) ⟨0, hn⟩)
  unfold soft
  rw [exp_pad h h1 h2 j hj, sum_exp_pad h h1 h2]
  have hz : 0 ≤ ∑ i, Ideal.exp (s i - top s) := Finset.sum_nonneg fun i _ => exp_nonneg _
  by_cases hz0 : ∑ i, Ideal.exp (s i - top s) = 0
  · rw [hz0]
    unfold Ideal.div
    rw [if_pos rfl, if_neg (lt_irrefl _)]
    exact bot_le
  · rw [show Ideal.div 0 (∑ i, Ideal.exp (s i - top s)) = 0 by unfold Ideal.div; rw [if_neg hz0, zero_mul]]
    exact div_nonneg' (exp_nonneg _) hz hz0

end pad

/-! ### The least position that holds a value, as a fold over words -/

/-- A small number, read back from its word as a signed number. -/
theorem toInt_small {c : ℕ} (h : c < 2 ^ 31) : (BitVec.ofNat 32 c).toInt = c := by
  rw [BitVec.toInt_eq_toNat_cond, BitVec.toNat_ofNat, Nat.mod_eq_of_lt (by omega), if_pos (by omega)]

/-- Folding the words' minimum is folding the numbers' minimum. -/
theorem fold_min (g : Fin n → ℕ) (hg : ∀ j, g j < 2 ^ 31) (S : Finset (Fin n)) :
    S.fold IntOp.minsi (2147483647#32) (fun j => BitVec.ofNat 32 (g j)) = BitVec.ofNat 32 (S.fold min 2147483647 g)
      ∧ S.fold min 2147483647 g < 2 ^ 31 := by
  classical
  induction S using Finset.induction_on with
  | empty => exact ⟨rfl, show 2147483647 < 2 ^ 31 by decide⟩
  | insert a S ha ih =>
    rw [Finset.fold_insert ha, Finset.fold_insert ha, ih.1]
    have h1 := hg a
    have h2 := ih.2
    refine ⟨?_, lt_of_le_of_lt (min_le_left _ _) h1⟩
    generalize Finset.fold min 2147483647 g S = b at *
    generalize g a = c at *
    have e1 : (BitVec.ofNat 32 c).toInt = c := toInt_small h1
    have e2 : (BitVec.ofNat 32 b).toInt = b := toInt_small h2
    unfold IntOp.minsi
    rcases le_total c b with hcb | hcb
    · rw [min_eq_left hcb]
      by_cases hlt : (BitVec.ofNat 32 c).slt (BitVec.ofNat 32 b)
      · simp [hlt]
      · have : c = b := by rw [BitVec.slt_iff_toInt_lt, e1, e2] at hlt; omega
        subst this; simp
    · rw [min_eq_right hcb]
      by_cases hlt : (BitVec.ofNat 32 c).slt (BitVec.ofNat 32 b)
      · rw [BitVec.slt_iff_toInt_lt, e1, e2] at hlt; omega
      · simp [hlt]

/-- It is the word of the least of the numbers. -/
theorem fold_min_eq (g : Fin n → ℕ) (hg : ∀ j, g j < 2 ^ 31) (k : Fin n) (hk : ∀ j, g k ≤ g j) :
    Finset.univ.fold IntOp.minsi (2147483647#32) (fun j => BitVec.ofNat 32 (g j)) = BitVec.ofNat 32 (g k) := by
  rw [(fold_min g hg Finset.univ).1]
  congr 1
  refine le_antisymm ?_ ?_
  · exact Finset.fold_min_le (g k) |>.2 (.inr ⟨k, Finset.mem_univ _, le_rfl⟩)
  · exact Finset.le_fold_min (g k) |>.2 ⟨by have := hg k; omega, fun j _ => hk j⟩

end Cert.Proof.Spec

end
-- ==== Proof.Value.Words.lean ====
/-
  The small facts about words and constants that reading the two programs at an index leaves: indicators as numbers,
  comparisons of positions as comparisons of naturals, and the values of the constants.
-/
module

public import proofs.«01_k».proof.Proof.Value.Soft

@[expose] public section

noncomputable section

namespace Cert.Proof.Spec

open Idealize.ShloMosaic

/-- The pattern of two. -/
theorem two_eq : Ideal.ofBits .f32 0x40000000#32 = 2 := by
  rw [show (2 : EReal) = ((2 : ℝ) : EReal) by norm_cast]
  simp [Ideal.ofBits, Ideal.ieee, -EReal.coe_mul]; norm_num

/-- The pattern of minus two. -/
theorem neg_two_eq : Ideal.ofBits .f32 0xC0000000#32 = -2 := by
  rw [show (-2 : EReal) = ((-2 : ℝ) : EReal) by rw [EReal.coe_neg]; rfl]
  simp [Ideal.ofBits, Ideal.ieee, -EReal.coe_mul, -EReal.coe_neg]; norm_num

/-- The pattern of minus infinity. -/
theorem ninf_eq : Ideal.ofBits .f32 0xFF800000#32 = ⊥ := by
  simp [Ideal.ofBits, Ideal.ieee]

/-- Comparing two small numbers' words by less-than. -/
theorem cmpi_slt {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [Bool.eq_iff_iff, BitVec.slt_iff_toInt_lt, toInt_small ha, toInt_small hb, decide_eq_true_iff]
  exact Int.ofNat_lt

/-- Comparing two small numbers' words by equality. -/
theorem cmpi_eq {a b : ℕ} (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  refine ⟨fun h => ?_, fun h => h ▸ rfl⟩
  have := congrArg BitVec.toNat h
  rw [BitVec.toNat_ofNat, BitVec.toNat_ofNat, Nat.mod_eq_of_lt (by omega), Nat.mod_eq_of_lt (by omega)] at this
  exact this

/-- The conjunction of two bits. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two bits. -/
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- A bit as a number. -/
theorem sitofp_bit (p : Prop) [Decidable p] :
    (FloatOps.sitofp .f32 (BitVec.setWidth 32 (BitVec.ofBool (decide p))) : Ideal .f32) = if p then (1 : EReal) else 0 := by
  show ((((BitVec.setWidth 32 (BitVec.ofBool (decide p))).toInt : ℤ) : ℝ) : EReal) = _
  by_cases hp : p <;> simp [hp]

/-- A position as a number. -/
theorem sitofp_small {a : ℕ} (ha : a < 2 ^ 31) : (FloatOps.sitofp .f32 (BitVec.ofNat 32 a) : Ideal .f32) = ((a : ℕ) : EReal) := by
  show ((((BitVec.ofNat 32 a).toInt : ℤ) : ℝ) : EReal) = _
  rw [toInt_small ha]
  norm_cast

/-- Two numbers equal among the extended reals are equal. -/
theorem natCast_inj {a b : ℕ} : ((a : EReal) = (b : EReal)) ↔ a = b := by
  rw [← EReal.coe_natCast, ← EReal.coe_natCast, EReal.coe_eq_coe_iff, Nat.cast_inj]

/-- The position of row `r` of tile `t`. -/
theorem tile_row (k r : ℕ) :
    IntOp.addi (Scalar.muli (Scf.iv 0#32 1#32 k) 128#32) (BitVec.ofNat 32 r) = BitVec.ofNat 32 (128 * k + r) := by
  show (0#32 + BitVec.ofNat 32 k * 1#32) * 128#32 + BitVec.ofNat 32 r = _
  apply BitVec.eq_of_toNat_eq
  simp only [BitVec.toNat_add, BitVec.toNat_mul, BitVec.toNat_ofNat]
  omega

/-- A choice on a bit is a choice on what it says. -/
theorem select_bit {α : Type} (p : Prop) [Decidable p] (a b : α) :
    Scalar.select (BitVec.ofBool (decide p)) a b = if p then a else b := by
  by_cases hp : p <;> simp [hp, Scalar.select]

end Cert.Proof.Spec

end
-- ==== Proof.Value.Reads.lean ====
/-
  The kernel's payloads read at an index over the extended reals.
-/
module

public import proofs.«01_k».proof.Proof.Body.Chain
public import proofs.«01_k».proof.Proof.Value.Words

@[expose] public section

set_option maxRecDepth 16384

noncomputable section

namespace Cert.Proof.KI

open Cert.KernelIdeal Cert.KernelIdeal.Gen Cert.Proof Cert.Proof.Spec
open Idealize.ShloMosaic Idealize.ShloMosaic.VecWindow

/-- The mask is minus infinity. -/
theorem mask_eq : (Named.named κ "mask" 0xF149F2CA#32 : Ideal .f32) = ⊥ := rfl

/-- The rows of a batch of one. -/
abbrev pts {n d : ℕ} (X : (⟨3, ![1, n, d]⟩ : Shape).Idx → EReal) (i : Fin n) (k : Fin d) : EReal := X (ix3 0 i k)

/-- A tile of scores. -/
theorem pay10_apply (X : FVec Ideal S1x2048x512 .f32) (T : FVec Ideal S1x128x512 .f32) (r : Fin 128) (l : Fin 2048) :
    k0_pay10 (F := Ideal) X T (ix2 r l) = score (pts T) (pts X) r l := by
  pointwise [k0_pay10, k0_pay7]
  rw [two_eq]; rfl

/-- A tile's scores against every target. -/
theorem pay11_apply (X : FVec Ideal S1x2048x512 .f32) (T : FVec Ideal S1x128x512 .f32) (r : Fin 128) (l : Fin 2048) :
    k0_pay11 (F := Ideal) X T (ix2 r l) = score (pts T) (pts X) r l := by
  rw [← pay10_apply]
  pointwise [k0_pay11]

/-- The column sums start at zero. -/
theorem pay8_apply (l : Fin 2048) : k0_pay8 (F := Ideal) (ix2 0 l) = 0 := by
  pointwise [k0_pay8]

/-- The column maxima start at minus infinity. -/
theorem pay9_apply (l : Fin 2048) : k0_pay9 (F := Ideal) (ix2 0 l) = ⊥ := by
  pointwise [k0_pay9]
  rfl

/-- The denominators start at zero. -/
theorem pay14_apply (l : Fin 2048) : k0_pay14 (F := Ideal) (ix2 0 l) = 0 := by
  pointwise [k0_pay14]

/-- A tile's part of the column sums of the row-wise softmax. -/
theorem pay12_apply (X : FVec Ideal S1x2048x512 .f32) (A : FVec Ideal S1x2048 .f32) (T : FVec Ideal S1x128x512 .f32) (l : Fin 2048) :
    k0_pay12 (F := Ideal) X A T (ix2 0 l) = A (ix2 0 l) + ∑ r : Fin 128, soft (fun l' => score (pts T) (pts X) r l') l := by
  pointwise [k0_pay12]
  rw [ninf_eq]
  simp only [pay10_apply]
  rfl

/-- A tile's part of the column maxima. -/
theorem pay13_apply (X : FVec Ideal S1x2048x512 .f32) (A : FVec Ideal S1x2048 .f32) (T : FVec Ideal S1x128x512 .f32) (l : Fin 2048) :
    k0_pay13 (F := Ideal) X A T (ix2 0 l) = max (A (ix2 0 l)) (top fun r : Fin 128 => score (pts T) (pts X) r l) := by
  pointwise [k0_pay13]
  rw [ninf_eq]
  simp only [pay10_apply]
  rfl

/-- A tile's part of the denominators of the column-wise softmax. -/
theorem pay15_apply (c A : FVec Ideal S1x2048 .f32) (S : FVec Ideal S128x2048 .f32) (l : Fin 2048) :
    k0_pay15 (F := Ideal) c A S (ix2 0 l) = A (ix2 0 l) + ∑ r : Fin 128, Ideal.exp (S (ix2 r l) - c (ix2 0 l)) := by
  pointwise [k0_pay15]

/-- A tile's row sums of the column-wise softmax. -/
theorem pay16_apply (c e : FVec Ideal S1x2048 .f32) (S : FVec Ideal S128x2048 .f32) (r : Fin 128) :
    k0_pay16 (F := Ideal) c e S (ix2 r 0) = ∑ l : Fin 2048, Ideal.div (Ideal.exp (S (ix2 r l) - c (ix2 0 l))) (e (ix2 0 l)) := by
  pointwise [k0_pay16]

/-- The row sums laid out as one row. -/
theorem pay17_apply (v : FVec Ideal S2048x1 .f32) (l : Fin 2048) : k0_pay17 v (ix2 0 l) = v (ix2 l 0) := by
  pointwise [k0_pay17]

/-- The column sums laid out as one column. -/
theorem pay18_apply (v : FVec Ideal S1x2048 .f32) (l : Fin 2048) : k0_pay18 v (ix2 l 0) = v (ix2 0 l) := by
  pointwise [k0_pay18]

/-- The ranks of the column sums laid out as one row. -/
theorem pay20_apply (v : FVec Ideal S2048x1 .f32) (l : Fin 2048) : k0_pay20 v (ix2 0 l) = v (ix2 l 0) := by
  pointwise [k0_pay20]

/-- How many entries of a row stand ahead of an entry `a` at position `p`. -/
def ahead {n : ℕ} (v : Fin n → EReal) (a : EReal) (p : ℕ) : EReal :=
  ∑ x : Fin n, if a < v x ∨ (v x = a ∧ x.val < p) then (1 : EReal) else 0

/-- Counting the entries ahead of a place gives its rank. -/
theorem ahead_eq {n : ℕ} (v : Fin n → EReal) (i : Fin n) : ahead v (v i) i.val = (rank v i : EReal) :=
  (Finset.sum_congr rfl fun j _ => by
    by_cases h : Ahead v j i
    · exact (if_pos h).trans (if_pos h).symm
    · exact (if_neg h).trans (if_neg h).symm).trans (sum_count fun j => Ahead v j i)

/-- A tile's ranks among the column sums, by counting. -/
theorem pay19_apply (A : FVec Ideal S1x2048 .f32) (k : Fin k0_t4_loop.trips) (T : FVec Ideal S128x1 .f32) (r : Fin 128) :
    k0_pay19 (F := Ideal) A k T (ix2 r 0) = ahead (fun x => A (ix2 0 x)) (T (ix2 r 0)) (128 * k.val + r.val) := by
  have hk : k.val < 16 := lt_of_lt_of_eq k.isLt n4
  pointwise [k0_pay19]
  refine Finset.sum_congr rfl fun x _ => ?_
  rw [tile_row, cmpi_slt (by omega) (by omega), andi_ofBool, ori_ofBool, sitofp_bit]

/-- A tile's ranks among the row sums, by counting. -/
theorem pay24_apply (A : FVec Ideal S1x2048 .f32) (k : Fin k0_t6_loop.trips) (T : FVec Ideal S128x1 .f32) (r : Fin 128) :
    k0_pay24 (F := Ideal) A k T (ix2 r 0) = ahead (fun x => A (ix2 0 x)) (T (ix2 r 0)) (128 * k.val + r.val) := by
  have hk : k.val < 16 := lt_of_lt_of_eq k.isLt n6
  pointwise [k0_pay24]
  refine Finset.sum_congr rfl fun x _ => ?_
  rw [tile_row, cmpi_slt (by omega) (by omega), andi_ofBool, ori_ofBool, sitofp_bit]

/-- A tile's ranks among the best probabilities, by counting. -/
theorem pay31_apply (A : FVec Ideal S1408x1 .f32) (k : Fin k0_t9_loop.trips) (T : FVec Ideal S128x1 .f32) (r : Fin 128) :
    k0_pay31 (F := Ideal) A k T (ix2 r 0) = ahead (fun x => A (ix2 x 0)) (T (ix2 r 0)) (128 * k.val + r.val) := by
  have hk : k.val < 11 := lt_of_lt_of_eq k.isLt n9
  pointwise [k0_pay31]
  refine Finset.sum_congr rfl fun x _ => ?_
  rw [tile_row, cmpi_slt (by omega) (by omega), andi_ofBool, ori_ofBool, sitofp_bit]

/-- The table that selects the entry of each rank. -/
theorem pay21_apply (A : FVec Ideal S1x2048 .f32) (k : Fin k0_t5_loop.trips) (r : Fin 128) (l : Fin 2048) :
    k0_pay21 (F := Ideal) A k (ix2 r l)
      = if A (ix2 0 l) = ((128 * k.val + r.val : ℕ) : EReal) ∧ 128 * k.val + r.val < 1290 then (1 : EReal) else 0 := by
  have hk : k.val < 11 := lt_of_lt_of_eq k.isLt n5
  pointwise [k0_pay21]
  rw [tile_row, cmpi_slt (by omega) (by omega), sitofp_small (by omega), andi_ofBool, sitofp_bit]

/-- The one-hot rows that select sources. -/
theorem pay25_apply (A : FVec Ideal S2048x1 .f32) (k : Fin k0_t7_loop.trips) (r : Fin 128) (l : Fin 2048) :
    k0_pay25 (F := Ideal) A k (ix2 r l)
      = if A (ix2 l 0) = ((128 * k.val + r.val : ℕ) : EReal) ∧ 128 * k.val + r.val < 1290 then (1 : EReal) else 0 := by
  have hk : k.val < 11 := lt_of_lt_of_eq k.isLt n7
  pointwise [k0_pay25]
  rw [tile_row, cmpi_slt (by omega) (by omega), sitofp_small (by omega), andi_ofBool, sitofp_bit]

/-- The one-hot rows that select the kept sources. -/
theorem pay1_apply (A : FVec Ideal S1408x1 .f32) (r : Fin 512) (l : Fin 1408) :
    k0_pay1 (F := Ideal) A (ix2 r l) = if A (ix2 l 0) = ((r.val : ℕ) : EReal) ∧ r.val < 503 then (1 : EReal) else 0 := by
  pointwise [k0_pay1]
  rw [show IntOp.addi 0#32 (BitVec.ofNat 32 r.val) = BitVec.ofNat 32 r.val from BitVec.zero_add _,
    cmpi_slt (by omega) (by omega), sitofp_small (by omega), andi_ofBool, sitofp_bit]

/-- Selecting target embeddings is a sum over the targets against one-hot rows. -/
theorem pay22_apply (X : FVec Ideal S1x2048x512 .f32) (A : FVec Ideal S1x2048 .f32) (k : Fin k0_t5_loop.trips) (r : Fin 128) (c : Fin 512) :
    k0_pay22 (F := Ideal) (k0_pay7 X) A k (ix2 r c) = ∑ l : Fin 2048, k0_pay21 A k (ix2 r l) * pts X l c := by
  pointwise [k0_pay22, k0_pay7]

/-- Selecting target points is the same sum of the points. -/
theorem pay23_apply (X : FVec Ideal S1x2048x3 .f32) (A : FVec Ideal S1x2048 .f32) (k : Fin k0_t5_loop.trips) (r : Fin 128) (c : Fin 3) :
    k0_pay23 (F := Ideal) A X k (ix2 r c) = ∑ l : Fin 2048, k0_pay21 A k (ix2 r l) * pts X l c := by
  pointwise [k0_pay23]

/-- Selecting source embeddings is a sum over the sources against one-hot rows. -/
theorem pay26_apply (X : FVec Ideal S1x2048x512 .f32) (A : FVec Ideal S2048x1 .f32) (k : Fin k0_t7_loop.trips) (r : Fin 128) (c : Fin 512) :
    k0_pay26 (F := Ideal) A X k (ix2 r c) = ∑ l : Fin 2048, k0_pay25 (F := Ideal) A k (ix2 r l) * pts X l c := by
  pointwise [k0_pay26]

/-- Selecting source points is the same sum of the points. -/
theorem pay27_apply (X : FVec Ideal S1x2048x3 .f32) (A : FVec Ideal S2048x1 .f32) (k : Fin k0_t7_loop.trips) (r : Fin 128) (c : Fin 3) :
    k0_pay27 (F := Ideal) A X k (ix2 r c) = ∑ l : Fin 2048, k0_pay25 (F := Ideal) A k (ix2 r l) * pts X l c := by
  pointwise [k0_pay27]

/-- The squared lengths of the selected target embeddings. -/
theorem pay28_apply (Y : FVec Ideal S1408x512 .f32) (l : Fin 1408) :
    k0_pay28 (F := Ideal) Y (ix2 0 l) = ∑ k : Fin 512, Y (ix2 l k) * Y (ix2 l k) := by
  pointwise [k0_pay28]

/-- Storing the best target points leaves them as they are. -/
theorem pay29_apply (Y : FVec Ideal S128x3 .f32) (r : Fin 128) (c : Fin 3) : k0_pay29 Y (ix2 r c) = Y (ix2 r c) := by
  pointwise [k0_pay29]

/-- The scores of the selected points, the columns behind the selected ones masked. -/
def masked (Y : FVec Ideal S1408x512 .f32) (T : FVec Ideal S128x512 .f32) (r : Fin 128) (c : Fin 1408) : EReal :=
  if c.val < 1290 then score (fun r k => T (ix2 r k)) (fun l k => Y (ix2 l k)) r c else ⊥

/-- The softmax of the masked scores. -/
theorem pay4_apply (Y : FVec Ideal S1408x512 .f32) (T : FVec Ideal S128x512 .f32) (r : Fin 128) (c : Fin 1408) :
    k0_pay4 (F := Ideal) Y (k0_pay28 Y) T (ix2 r c) = soft (masked Y T r) c := by
  have h : ∀ x : Fin 1408, IntOp.cmpi .slt (BitVec.ofNat 32 x.val) 1290#32 = BitVec.ofBool (decide (x.val < 1290)) :=
    fun x => cmpi_slt (by omega) (by omega)
  pointwise [k0_pay4]
  simp only [h, select_bit, ninf_eq, two_eq, pay28_apply, mask_eq]
  rfl

/-- The greatest entry of the softmax. -/
theorem pay5_apply (Y : FVec Ideal S1408x512 .f32) (T : FVec Ideal S128x512 .f32) (r : Fin 128) :
    k0_pay5 (F := Ideal) Y (k0_pay28 Y) T (ix2 r 0) = top (soft (masked Y T r)) := by
  pointwise [k0_pay5]
  simp only [ninf_eq, pay4_apply]
  rfl

/-- The row of the table at the first position that holds the greatest entry. -/
theorem pay6_apply (Y : FVec Ideal S1408x512 .f32) (W : FVec Ideal S1408x3 .f32) (T : FVec Ideal S128x512 .f32) (r : Fin 128)
    (c : Fin 3) (k : Fin 1408) (hk : k.val < 1290) (ht : soft (masked Y T r) k = top (soft (masked Y T r)))
    (hm : ∀ j : Fin 1408, j.val < 1290 → soft (masked Y T r) j = top (soft (masked Y T r)) → k ≤ j) :
    k0_pay6 (F := Ideal) Y (k0_pay28 Y) W T (ix2 r c) = W (ix2 k c) := by
  have h : ∀ x : Fin 1408, IntOp.cmpi .slt (BitVec.ofNat 32 x.val) 1290#32 = BitVec.ofBool (decide (x.val < 1290)) :=
    fun x => cmpi_slt (by omega) (by omega)
  let g : Fin 1408 → ℕ := fun x =>
    if soft (masked Y T r) x = top (soft (masked Y T r)) ∧ x.val < 1290 then x.val else 1408
  have hg : ∀ x, (if soft (masked Y T r) x = top (soft (masked Y T r)) ∧ x.val < 1290 then BitVec.ofNat 32 x.val else 1408#32)
      = BitVec.ofNat 32 (g x) := fun x => by
    show _ = BitVec.ofNat 32 (if _ then _ else _)
    split <;> rfl
  have gk : g k = k.val := if_pos ⟨ht, hk⟩
  pointwise [k0_pay6]
  simp only [h, pay4_apply, pay5_apply, andi_ofBool, select_bit, hg]
  rw [fold_min_eq g (fun j => ?_) k (fun j => ?_), gk]
  · refine (Finset.sum_congr rfl fun x _ => ?_).trans (sum_indicator (fun x : Fin 1408 => x = k) (fun x => W (ix2 x c)) k fun _ => Iff.rfl)
    rw [cmpi_eq (by omega) (by omega), sitofp_bit]
    simp only [Fin.ext_iff]
  · show (if _ then _ else _) < _
    split <;> omega
  · rw [gk]
    show k.val ≤ if _ then _ else _
    split
    next hj => exact hm j hj.2 hj.1
    next => omega

/-- The best probabilities, the rows behind the selected ones masked. -/
theorem pay30_apply (k : ℕ) (hk : k < 11) (A : FVec Ideal S128x1 .f32) (r : Fin 128) :
    k0_pay30 (F := Ideal) (Scalar.muli (Scf.iv 0#32 1#32 k) 128#32) A (ix2 r 0) = if 128 * k + r.val < 1290 then A (ix2 r 0) else ⊥ := by
  pointwise [k0_pay30]
  rw [tile_row, cmpi_slt (by omega) (by omega), select_bit, mask_eq]

/-- The first result's block is a sum of the selected source points against one-hot rows. -/
theorem pay2_apply (A : FVec Ideal S1408x1 .f32) (W : FVec Ideal S1408x3 .f32) (r : Fin 512) (c : Fin 3) :
    k0_pay2 (F := Ideal) A W (ix3 0 r c) = ∑ l : Fin 1408, k0_pay1 A (ix2 r l) * W (ix2 l c) := by
  pointwise [k0_pay2]

/-- The second result's block is a sum of the best target points against one-hot rows. -/
theorem pay3_apply (A : FVec Ideal S1408x1 .f32) (W : FVec Ideal S1408x3 .f32) (r : Fin 512) (c : Fin 3) :
    k0_pay3 (F := Ideal) A W (ix3 0 r c) = ∑ l : Fin 1408, k0_pay1 A (ix2 r l) * W (ix2 l c) := by
  pointwise [k0_pay3]

end Cert.Proof.KI

end
-- ==== Proof.Value.Spec.lean ====
/-
  What the two programs compute for one batch, over the extended reals: the mutual matching of two clouds of points by
  the softmax of their embeddings' scores. `x` and `y` are the source and the target embeddings, one row a point.
-/
module

public import proofs.«01_k».proof.Proof.Value.Soft

@[expose] public section

noncomputable section

namespace Cert.Proof.Spec

open Idealize.ShloMosaic

variable (x y : Fin 2048 → Fin 512 → EReal)

/-- The column sums of the row-wise softmax of the scores: a weight for each target point. -/
def colSum (j : Fin 2048) : EReal := ∑ i, soft (fun j' => score x y i j') j

/-- The row sums of the column-wise softmax of the scores: a weight for each source point. -/
def rowSum (i : Fin 2048) : EReal := ∑ j, soft (fun i' => score x y i' j) i

/-- The `1290` positions of greatest weight, in order. -/
def order (v : Fin 2048 → EReal) (r : Fin 1290) : Fin 2048 := pick v (Fin.castLE (by decide) r)

/-- The scores of the selected points. -/
def scores (r c : Fin 1290) : EReal :=
  score (fun r => x (order (rowSum x y) r)) (fun c => y (order (colSum x y) c)) r c

/-- The selected source point `r`'s softmax over the selected target points. -/
def prob (r c : Fin 1290) : EReal := soft (scores x y r) c

/-- Its best target point. -/
def best (r : Fin 1290) : Fin 1290 := pick (prob x y r) ⟨0, by decide⟩

/-- Its best probability. -/
def conf (r : Fin 1290) : EReal := top (prob x y r)

/-- The `503` selected source points of greatest best probability, in order. -/
def keep (q : Fin 503) : Fin 1290 := pick (conf x y) (Fin.castLE (by decide) q)

/-- The kept source points. -/
def kept (px : Fin 2048 → Fin 3 → EReal) (q : Fin 503) (c : Fin 3) : EReal := px (order (rowSum x y) (keep x y q)) c

/-- Their best target points. -/
def matched (py : Fin 2048 → Fin 3 → EReal) (q : Fin 503) (c : Fin 3) : EReal :=
  py (order (colSum x y) (best x y (keep x y q))) c

/-- The best target of a source has the greatest probability. -/
theorem prob_best (r : Fin 1290) : prob x y r (best x y r) = conf x y r := pick_zero (prob x y r) (by decide)

/-- It is the first target that has it. -/
theorem best_le (r j : Fin 1290) (h : prob x y r j = conf x y r) : best x y r ≤ j := pick_zero_le (prob x y r) (by decide) j h

/-- With real embeddings, a best probability over itself is one. -/
theorem conf_div_self (hx : ∀ i k, ∃ r : ℝ, x i k = r) (hy : ∀ i k, ∃ r : ℝ, y i k = r) (r : Fin 1290) :
    Ideal.div (conf x y r) (conf x y r) = 1 := by
  refine div_self' ?_
  rw [← prob_best]
  exact soft_real _ (fun c => score_real _ _ (fun i k => hx _ k) (fun j k => hy _ k) r c) _

end Cert.Proof.Spec

end
-- ==== Proof.Value.Weights.lean ====
/-
  The first half of a grid step of the kernel: the scores in tiles, the two softmax weights, and the weights' ranks.
-/
module

public import proofs.«01_k».proof.Proof.Value.Reads
public import proofs.«01_k».proof.Proof.Value.Spec

@[expose] public section

set_option maxRecDepth 16384

noncomputable section

namespace Cert.Proof.KI

open Cert.KernelIdeal Cert.KernelIdeal.Gen Cert.Proof Cert.Proof.Spec
open Idealize.ShloMosaic Idealize.ShloMosaic.VecWindow

/-- Row `r` of tile `t`. -/
def row (t : ℕ) (r : Fin 128) : Fin 2048 := ⟨(128 * t + r.val) % 2048, Nat.mod_lt _ (by decide)⟩

/-- The number of row `r` of tile `t`. -/
theorem row_val {t : ℕ} (ht : t < 16) (r : Fin 128) : (row t r).val = 128 * t + r.val := by
  show (128 * t + r.val) % 2048 = _
  omega

/-- Every position is a row of a tile. -/
theorem row_div (i : Fin 2048) : row (i.val / 128) ⟨i.val % 128, Nat.mod_lt _ (by decide)⟩ = i :=
  Fin.ext (by rw [row_val (by omega)]; show 128 * (i.val / 128) + i.val % 128 = i.val; omega)

/-- Tiles stacked in rows, read at a row. -/
theorem rows_apply {α : Type} {n w : ℕ} (f : ℕ → ((a : Fin 2) → Fin ((![128, w] : Fin 2 → ℕ) a)) → α) (i : Fin n) (c : Fin w) :
    rows (n := n) f (ix2 i c) = f (i.val / 128) (ix2 ⟨i.val % 128, Nat.mod_lt _ (by decide)⟩ c) := by
  unfold rows
  refine congrArg (f (i.val / 128)) (funext fun a => ?_)
  match a with
  | ⟨0, _⟩ => rfl
  | ⟨1, _⟩ => rfl

/-- A sum over the rows, tile by tile. -/
theorem sum_rows (f : Fin 2048 → EReal) : ∑ t ∈ Finset.range 16, ∑ r : Fin 128, f (row t r) = ∑ i, f i := by
  rw [Fin.sum_univ_tiles 16 128 (by decide) f, Finset.sum_range]
  refine Finset.sum_congr rfl fun t _ => Finset.sum_congr rfl fun r _ => congrArg f (Fin.ext ?_)
  rw [row_val t.isLt]
  show 128 * t.val + r.val = t.val * 128 + r.val
  omega

variable (X1 X2 : FVec Ideal S1x2048x512 .f32)

/-- A tile's rows are rows of the source embeddings. -/
theorem tl1_pts {t : ℕ} (ht : t < 16) (r : Fin 128) : pts (tl1 (F := Ideal) X1 t) r = pts X1 (row t r) := by
  funext k
  have e := k0_off1_eq (clip p1 t)
  have hc : (clip p1 t).val = t := Nat.mod_eq_of_lt (by rw [n1]; exact ht)
  refine congrArg X1 (funext fun a => Fin.ext ?_)
  show k0_off1 (clip p1 t) a + 1 * (ix3 (n0 := 1) (n1 := 128) (n2 := 512) 0 r k a).val = (ix3 (n0 := 1) (n1 := 2048) (n2 := 512) 0 (row t r) k a).val
  rw [e, hc]
  match a with
  | ⟨0, _⟩ => rfl
  | ⟨1, _⟩ => show 128 * t + 1 * r.val = (row t r).val; rw [row_val ht]; omega
  | ⟨2, _⟩ => show 0 + 1 * k.val = k.val; omega

/-- The scores of the whole block. -/
abbrev sc (i l : Fin 2048) : EReal := score (pts X1) (pts X2) i l

/-- A tile's scores are scores of its rows. -/
theorem score_tile {t : ℕ} (ht : t < 16) (r : Fin 128) (l : Fin 2048) :
    score (pts (tl1 (F := Ideal) X1 t)) (pts X2) r l = sc X1 X2 (row t r) l := by
  unfold sc score
  rw [tl1_pts X1 ht r]

/-- The stored scores of a tile. -/
theorem sT_apply {t : ℕ} (ht : t < 16) (r : Fin 128) (l : Fin 2048) : sT (F := Ideal) X1 X2 t (ix2 r l) = sc X1 X2 (row t r) l := by
  unfold sT
  rw [pay11_apply, score_tile X1 X2 ht]

/-- The column sums after some tiles: the sum over the rows so far. -/
theorem car_fst (l : Fin 2048) : ∀ t ≤ 16, (car (F := Ideal) X1 X2 t).1 (ix2 0 l)
    = ∑ s ∈ Finset.range t, ∑ r : Fin 128, soft (fun l' => sc X1 X2 (row s r) l') l
  | 0, _ => pay8_apply l
  | t + 1, h => by
    rw [Finset.sum_range_succ, ← car_fst l t (by omega)]
    refine (pay12_apply X2 _ _ l).trans ?_
    simp only [score_tile X1 X2 (show t < 16 by omega)]

/-- The column sums after all tiles. -/
theorem colSum_apply (l : Fin 2048) : (car (F := Ideal) X1 X2 16).1 (ix2 0 l) = colSum (pts X1) (pts X2) l := by
  rw [car_fst X1 X2 l 16 le_rfl]
  exact sum_rows fun i => soft (fun l' => sc X1 X2 i l') l

/-- The column maxima after some tiles: the greatest over the rows so far. -/
theorem car_snd (l : Fin 2048) : ∀ t ≤ 16, (car (F := Ideal) X1 X2 t).2 (ix2 0 l)
    = (Finset.range t).sup fun s => top fun r : Fin 128 => sc X1 X2 (row s r) l
  | 0, _ => pay9_apply l
  | t + 1, h => by
    rw [Finset.range_add_one, Finset.sup_insert, ← car_snd l t (by omega), sup_comm]
    refine (pay13_apply X2 _ _ l).trans ?_
    simp only [score_tile X1 X2 (show t < 16 by omega)]

/-- The column maxima after all tiles. -/
theorem colMax_apply (l : Fin 2048) : (car (F := Ideal) X1 X2 16).2 (ix2 0 l) = top fun i => sc X1 X2 i l := by
  rw [car_snd X1 X2 l 16 le_rfl]
  refine le_antisymm (Finset.sup_le fun s _ => top_le fun r => le_top' (fun i => sc X1 X2 i l) (row s r)) (top_le fun i => ?_)
  rw [← row_div i]
  exact le_trans (le_top' (fun r : Fin 128 => sc X1 X2 (row (i.val / 128) r) l) _)
    (Finset.le_sup (f := fun s => top fun r : Fin 128 => sc X1 X2 (row s r) l) (Finset.mem_range.2 (by omega)))

/-- The denominators after some tiles: the sum over the rows so far. -/
theorem den_apply (l : Fin 2048) : ∀ t ≤ 16, den (F := Ideal) X1 X2 t (ix2 0 l)
    = ∑ s ∈ Finset.range t, ∑ r : Fin 128, Ideal.exp (sc X1 X2 (row s r) l - top fun i => sc X1 X2 i l)
  | 0, _ => pay14_apply l
  | t + 1, h => by
    rw [Finset.sum_range_succ, ← den_apply l t (by omega)]
    refine (pay15_apply _ _ _ l).trans ?_
    simp only [sT_apply X1 X2 (show t < 16 by omega), colMax_apply]

/-- A tile of the row sums. -/
theorem rsT_apply {t : ℕ} (ht : t < 16) (r : Fin 128) : rsT (F := Ideal) X1 X2 t (ix2 r 0) = rowSum (pts X1) (pts X2) (row t r) := by
  refine (pay16_apply _ _ _ r).trans ?_
  simp only [sT_apply X1 X2 ht, colMax_apply, den_apply X1 X2 _ 16 le_rfl]
  refine Finset.sum_congr rfl fun l _ => ?_
  rw [sum_rows fun i => Ideal.exp (sc X1 X2 i l - top fun i => sc X1 X2 i l)]
  rfl

/-- The row sums as one row. -/
theorem v15_apply (l : Fin 2048) : v15 (F := Ideal) X1 X2 (ix2 0 l) = rowSum (pts X1) (pts X2) l := by
  refine (pay17_apply _ l).trans ?_
  rw [rows_apply, rsT_apply X1 X2 (by omega), row_div]

/-- A tile of the column sums. -/
theorem csT_apply {t : ℕ} (ht : t < 16) (r : Fin 128) : csT (F := Ideal) X1 X2 t (ix2 r 0) = colSum (pts X1) (pts X2) (row t r) := by
  rw [← colSum_apply]
  refine Eq.trans ?_ (pay18_apply (car (F := Ideal) X1 X2 16).1 (row t r))
  unfold csT tileOf
  refine congrArg (k0_pay18 (F := Ideal) (car (F := Ideal) X1 X2 16).1) (funext fun a => ?_)
  match a with
  | ⟨0, _⟩ => rfl
  | ⟨1, _⟩ => rfl

/-- The ranks of the target points' weights. -/
theorem v22_apply (l : Fin 2048) : v22 (F := Ideal) X1 X2 (ix2 0 l) = (rank (colSum (pts X1) (pts X2)) l : EReal) := by
  have h : l.val / 128 < 16 := by omega
  have hc : (clip p4 (l.val / 128)).val = l.val / 128 := Nat.mod_eq_of_lt (by rw [n4]; exact h)
  refine (pay20_apply _ l).trans ?_
  rw [rows_apply]
  refine (pay19_apply _ _ _ _).trans ?_
  simp only [csT_apply X1 X2 h, row_div, hc, colSum_apply]
  rw [← ahead_eq]
  congr 1
  show 128 * (l.val / 128) + l.val % 128 = l.val
  omega

/-- The ranks of the source points' weights. -/
theorem v27_apply (l : Fin 2048) : v27 (F := Ideal) X1 X2 (ix2 l 0) = (rank (rowSum (pts X1) (pts X2)) l : EReal) := by
  have h : l.val / 128 < 16 := by omega
  have hc : (clip p6 (l.val / 128)).val = l.val / 128 := Nat.mod_eq_of_lt (by rw [n6]; exact h)
  unfold v27
  rw [rows_apply]
  refine (pay24_apply _ _ _ _).trans ?_
  simp only [rsT_apply X1 X2 h, row_div, hc, v15_apply]
  rw [← ahead_eq]
  congr 1
  show 128 * (l.val / 128) + l.val % 128 = l.val
  omega

end Cert.Proof.KI

end
-- ==== Proof.Value.Result.lean ====
/-
  The second half of a grid step of the kernel: the selected points, their softmax, the best matches, and the two
  blocks that the step writes.
-/
module

public import proofs.«01_k».proof.Proof.Value.Weights

@[expose] public section

set_option maxRecDepth 16384

noncomputable section

namespace Cert.Proof.KI

open Cert.KernelIdeal Cert.KernelIdeal.Gen Cert.Proof Cert.Proof.Spec
open Idealize.ShloMosaic Idealize.ShloMosaic.VecWindow

/-- A rank equal to the place `p` among the first `1290`, as the selecting table tests it. -/
theorem place_iff {n N : ℕ} (hN : N ≤ n) (v : Fin n → EReal) (i : Fin n) (p : ℕ) (hp : p < N) :
    ((rank v i : EReal) = ((p : ℕ) : EReal) ∧ p < N) ↔ i = pick v ⟨p, lt_of_lt_of_le hp hN⟩ := by
  rw [natCast_inj]
  exact ⟨fun h => (rank_eq_iff v i ⟨p, lt_of_lt_of_le hp hN⟩).1 h.1, fun h => ⟨(rank_eq_iff v i ⟨p, lt_of_lt_of_le hp hN⟩).2 h, hp⟩⟩

/-- A place taken into a longer range stays below the shorter range's end. -/
theorem castLE_lt {n N : ℕ} (h : N ≤ n) (i : Fin N) : (Fin.castLE h i).val < N := i.isLt

/-- Taking places into a longer range keeps their order. -/
theorem castLE_mono {n N : ℕ} (h : N ≤ n) {i j : Fin N} (hij : i ≤ j) : Fin.castLE h i ≤ Fin.castLE h j := hij

variable (X1 X2 : FVec Ideal S1x2048x512 .f32) (X3 X4 : FVec Ideal S1x2048x3 .f32)

/-- A round of the target selection is its own number. -/
theorem clip5 {t : ℕ} (h : t < 11) : (clip p5 t).val = t := Nat.mod_eq_of_lt (by rw [n5]; exact h)
/-- A round of the source selection is its own number. -/
theorem clip7 {t : ℕ} (h : t < 11) : (clip p7 t).val = t := Nat.mod_eq_of_lt (by rw [n7]; exact h)
/-- A round of the second score table is its own number. -/
theorem clip8 {t : ℕ} (h : t < 11) : (clip p8 t).val = t := Nat.mod_eq_of_lt (by rw [n8]; exact h)
/-- A round of the last ranking is its own number. -/
theorem clip9 {t : ℕ} (h : t < 11) : (clip p9 t).val = t := Nat.mod_eq_of_lt (by rw [n9]; exact h)

/-- A row of the table of selected target points: the point of that rank. -/
theorem select_tgt {d : ℕ} (z : Fin 2048 → Fin d → EReal) {t : ℕ} (ht : t < 11) (r : Fin 128) (h : 128 * t + r.val < 1290) (c : Fin d) :
    ∑ l : Fin 2048, k0_pay21 (F := Ideal) (v22 (F := Ideal) X1 X2) (clip p5 t) (ix2 r l) * z l c
      = z (order (colSum (pts X1) (pts X2)) ⟨128 * t + r.val, h⟩) c := by
  simp only [pay21_apply, v22_apply, clip5 ht]
  exact sum_indicator _ (fun l => z l c) _ fun l => place_iff (by decide) _ l _ h

/-- The one-hot sum that selects sources reads the source at that place of the order. -/
theorem select_src {d : ℕ} (z : Fin 2048 → Fin d → EReal) {t : ℕ} (ht : t < 11) (r : Fin 128) (h : 128 * t + r.val < 1290) (c : Fin d) :
    ∑ l : Fin 2048, k0_pay25 (F := Ideal) (v27 (F := Ideal) X1 X2) (clip p7 t) (ix2 r l) * z l c
      = z (order (rowSum (pts X1) (pts X2)) ⟨128 * t + r.val, h⟩) c := by
  simp only [pay25_apply, v27_apply, clip7 ht]
  exact sum_indicator _ (fun l => z l c) _ fun l => place_iff (by decide) _ l _ h

/-- A tile of the selected target embeddings. -/
theorem teT_apply {t : ℕ} (ht : t < 11) (r : Fin 128) (h : 128 * t + r.val < 1290) (c : Fin 512) :
    teT (F := Ideal) X1 X2 t (ix2 r c) = pts X2 (order (colSum (pts X1) (pts X2)) ⟨128 * t + r.val, h⟩) c :=
  (pay22_apply _ _ _ _ _).trans (select_tgt X1 X2 (pts X2) ht r h c)

/-- A tile of the selected target points. -/
theorem tpT_apply {t : ℕ} (ht : t < 11) (r : Fin 128) (h : 128 * t + r.val < 1290) (c : Fin 3) :
    tpT (F := Ideal) X1 X2 X4 t (ix2 r c) = pts X4 (order (colSum (pts X1) (pts X2)) ⟨128 * t + r.val, h⟩) c :=
  (pay23_apply _ _ _ _ _).trans (select_tgt X1 X2 (pts X4) ht r h c)

/-- A tile of the selected source embeddings. -/
theorem seT_apply {t : ℕ} (ht : t < 11) (r : Fin 128) (h : 128 * t + r.val < 1290) (c : Fin 512) :
    seT (F := Ideal) X1 X2 t (ix2 r c) = pts X1 (order (rowSum (pts X1) (pts X2)) ⟨128 * t + r.val, h⟩) c :=
  (pay26_apply _ _ _ _ _).trans (select_src X1 X2 (pts X1) ht r h c)

/-- A tile of the selected source points. -/
theorem spT_apply {t : ℕ} (ht : t < 11) (r : Fin 128) (h : 128 * t + r.val < 1290) (c : Fin 3) :
    spT (F := Ideal) X1 X2 X3 t (ix2 r c) = pts X3 (order (rowSum (pts X1) (pts X2)) ⟨128 * t + r.val, h⟩) c :=
  (pay27_apply _ _ _ _ _).trans (select_src X1 X2 (pts X3) ht r h c)

/-- A position among the first `1290`, cut into its tile and its row. -/
theorem tile_eq (i : Fin 1290) (h : 128 * (i.val / 128) + i.val % 128 < 1290) : (⟨128 * (i.val / 128) + i.val % 128, h⟩ : Fin 1290) = i :=
  Fin.ext (Nat.div_add_mod i.val 128)

/-- The selected target embeddings, row by row. -/
theorem v34_apply (i : Fin 1290) (c : Fin 512) :
    v34 (F := Ideal) X1 X2 (ix2 (Fin.castLE (by decide) i) c) = pts X2 (order (colSum (pts X1) (pts X2)) i) c := by
  have h : 128 * (i.val / 128) + i.val % 128 < 1290 := by omega
  unfold v34
  rw [rows_apply]
  refine (teT_apply X1 X2 (t := i.val / 128) (by omega) ⟨i.val % 128, _⟩ h c).trans ?_
  rw [tile_eq]

/-- The selected target points, row by row. -/
theorem v39_apply (i : Fin 1290) (c : Fin 3) :
    v39 (F := Ideal) X1 X2 X4 (ix2 (Fin.castLE (by decide) i) c) = pts X4 (order (colSum (pts X1) (pts X2)) i) c := by
  have h : 128 * (i.val / 128) + i.val % 128 < 1290 := by omega
  unfold v39
  rw [rows_apply]
  refine (tpT_apply X1 X2 X4 (t := i.val / 128) (by omega) ⟨i.val % 128, _⟩ h c).trans ?_
  rw [tile_eq]

/-- The selected source points, row by row. -/
theorem spRow_apply (i : Fin 1290) (c : Fin 3) :
    rows (n := 1408) (spT (F := Ideal) X1 X2 X3) (ix2 (Fin.castLE (by decide) i) c) = pts X3 (order (rowSum (pts X1) (pts X2)) i) c := by
  have h : 128 * (i.val / 128) + i.val % 128 < 1290 := by omega
  rw [rows_apply]
  refine (spT_apply X1 X2 X3 (t := i.val / 128) (by omega) ⟨i.val % 128, _⟩ h c).trans ?_
  rw [tile_eq]

/-- The masked scores are the scores of the selected points, padded. -/
theorem masked_apply {t : ℕ} (ht : t < 11) (r : Fin 128) (h : 128 * t + r.val < 1290) (c : Fin 1290) :
    masked (v34 (F := Ideal) X1 X2) (seT (F := Ideal) X1 X2 t) r (Fin.castLE (by decide) c)
      = scores (pts X1) (pts X2) ⟨128 * t + r.val, h⟩ c := by
  unfold masked
  rw [if_pos (show (Fin.castLE (by decide : 1290 ≤ 1408) c).val < 1290 from c.isLt)]
  unfold scores score
  simp only [seT_apply X1 X2 ht r h, v34_apply]

/-- The padded columns of the second score table are minus infinity. -/
theorem masked_pad {t : ℕ} (r : Fin 128) (c : Fin 1408) (hc : 1290 ≤ c.val) :
    masked (v34 (F := Ideal) X1 X2) (seT (F := Ideal) X1 X2 t) r c = ⊥ := if_neg (not_lt.2 hc)

/-- The softmax of a padded row is the softmax of the row. -/
theorem soft_masked {t : ℕ} (ht : t < 11) (r : Fin 128) (h : 128 * t + r.val < 1290) (c : Fin 1290) :
    soft (masked (v34 (F := Ideal) X1 X2) (seT (F := Ideal) X1 X2 t) r) (Fin.castLE (by decide) c)
      = prob (pts X1) (pts X2) ⟨128 * t + r.val, h⟩ c :=
  soft_pad (by decide) (masked_apply X1 X2 ht r h) (masked_pad X1 X2 r) c

/-- The greatest probability of a padded row is that of the row. -/
theorem top_masked {t : ℕ} (ht : t < 11) (r : Fin 128) (h : 128 * t + r.val < 1290) :
    top (soft (masked (v34 (F := Ideal) X1 X2) (seT (F := Ideal) X1 X2 t) r)) = conf (pts X1) (pts X2) ⟨128 * t + r.val, h⟩ :=
  top_soft_pad (by decide) (masked_apply X1 X2 ht r h) (masked_pad X1 X2 r) (by decide)

/-- The best target point of a selected source point. -/
theorem cdT_apply {t : ℕ} (ht : t < 11) (r : Fin 128) (h : 128 * t + r.val < 1290) (c : Fin 3) :
    cdT (F := Ideal) X1 X2 X4 t (ix2 r c)
      = pts X4 (order (colSum (pts X1) (pts X2)) (best (pts X1) (pts X2) ⟨128 * t + r.val, h⟩)) c := by
  unfold cdT
  rw [pay29_apply]
  refine (pay6_apply _ _ _ _ _ (Fin.castLE (by decide) (best (pts X1) (pts X2) ⟨128 * t + r.val, h⟩)) (castLE_lt _ _) ?_ ?_).trans
    (v39_apply X1 X2 X4 _ c)
  · rw [soft_masked X1 X2 ht r h, top_masked X1 X2 ht r h]
    exact prob_best _ _ _
  · intro j hj e
    obtain ⟨i, rfl⟩ : ∃ i : Fin 1290, j = Fin.castLE (by decide) i := ⟨⟨j.val, hj⟩, rfl⟩
    rw [top_masked X1 X2 ht r h, soft_masked X1 X2 ht r h] at e
    exact castLE_mono _ (best_le _ _ _ i e)

/-- A tile of the best probabilities, at the true rows. -/
theorem vlT_apply {t : ℕ} (ht : t < 11) (r : Fin 128) (h : 128 * t + r.val < 1290) :
    vlT (F := Ideal) X1 X2 t (ix2 r 0) = conf (pts X1) (pts X2) ⟨128 * t + r.val, h⟩ := by
  unfold vlT
  rw [clip8 ht, pay30_apply t ht, if_pos h, pay5_apply, top_masked X1 X2 ht r h]

/-- A tile of the best probabilities, at the padded rows. -/
theorem vlT_pad {t : ℕ} (ht : t < 11) (r : Fin 128) (h : ¬ 128 * t + r.val < 1290) : vlT (F := Ideal) X1 X2 t (ix2 r 0) = ⊥ := by
  unfold vlT
  rw [clip8 ht, pay30_apply t ht, if_neg h]

/-- The best probabilities at the true rows. -/
theorem v41_apply (i : Fin 1290) : v41 (F := Ideal) X1 X2 (ix2 (Fin.castLE (by decide) i) 0) = conf (pts X1) (pts X2) i := by
  have h : 128 * (i.val / 128) + i.val % 128 < 1290 := by omega
  unfold v41
  rw [rows_apply]
  refine (vlT_apply X1 X2 (t := i.val / 128) (by omega) ⟨i.val % 128, _⟩ h).trans ?_
  rw [tile_eq]

/-- The best probabilities at the padded rows are minus infinity. -/
theorem v41_pad (j : Fin 1408) (hj : 1290 ≤ j.val) : v41 (F := Ideal) X1 X2 (ix2 j 0) = ⊥ := by
  unfold v41
  rw [rows_apply]
  exact vlT_pad X1 X2 (by omega) _ (by show ¬ 128 * (j.val / 128) + j.val % 128 < 1290; omega)

/-- The ranks of the best probabilities among all rows, the padding included. -/
theorem v44_apply (j : Fin 1408) :
    v44 (F := Ideal) X1 X2 (ix2 j 0) = (rank (fun x => (v41 (F := Ideal) X1 X2 (ix2 x 0) : EReal)) j : EReal) := by
  have h : j.val / 128 < 11 := by omega
  unfold v44
  rw [rows_apply]
  refine (pay31_apply _ _ _ _).trans ?_
  rw [clip9 h, ← ahead_eq]
  have e : (v41 (F := Ideal) X1 X2 (ix2 j 0) : EReal) = vlT (F := Ideal) X1 X2 (j.val / 128) (ix2 ⟨j.val % 128, Nat.mod_lt _ (by decide)⟩ 0) := by
    unfold v41; rw [rows_apply]
  rw [e]
  congr 1
  show 128 * (j.val / 128) + j.val % 128 = j.val
  omega

/-- Among the padded rows, the row at one of the first `503` places is the kept one. -/
theorem place_pad (j : Fin 1408) (q : Fin 503) :
    ((v44 (F := Ideal) X1 X2 (ix2 j 0) : EReal) = ((q.val : ℕ) : EReal) ∧ q.val < 503)
      ↔ j = Fin.castLE (by decide) (keep (pts X1) (pts X2) q) := by
  rw [v44_apply, natCast_inj, and_iff_left q.isLt]
  by_cases hj : j.val < 1290
  · obtain ⟨i, rfl⟩ : ∃ i : Fin 1290, j = Fin.castLE (by decide) i := ⟨⟨j.val, hj⟩, rfl⟩
    rw [rank_pad (by decide) (conf (pts X1) (pts X2)) _ (v41_apply X1 X2) (v41_pad X1 X2),
      (Fin.castLE_injective _).eq_iff]
    exact rank_eq_iff (conf (pts X1) (pts X2)) i (Fin.castLE (by decide) q)
  · constructor
    · intro e
      have := rank_pad_ge (n := 1290) (by decide) (fun x => (v41 (F := Ideal) X1 X2 (ix2 x 0) : EReal)) (v41_pad X1 X2) j (not_lt.1 hj)
      omega
    · intro e
      exact absurd (e ▸ castLE_lt _ _) hj

/-- The last one-hot sum reads the row of the kept source. -/
theorem select_kept (W : FVec Ideal S1408x3 .f32) (q : Fin 503) (c : Fin 3) :
    ∑ l : Fin 1408, k0_pay1 (F := Ideal) (v44 (F := Ideal) X1 X2) (ix2 (Fin.castLE (by decide) q : Fin 512) l) * W (ix2 l c)
      = W (ix2 (Fin.castLE (by decide) (keep (pts X1) (pts X2) q)) c) := by
  simp only [pay1_apply]
  exact sum_indicator _ (fun l => W (ix2 l c)) _ fun l => place_pad X1 X2 l q

/-- The first result's block: the kept source points. -/
theorem outB_apply (q : Fin 503) (c : Fin 3) :
    outB (F := Ideal) X1 X2 X3 (ix3 0 (Fin.castLE (by decide) q) c) = kept (pts X1) (pts X2) (pts X3) q c := by
  refine (pay2_apply _ _ _ _).trans ((select_kept X1 X2 _ q c).trans ?_)
  exact spRow_apply X1 X2 X3 _ c

/-- The second result's block: their best target points. -/
theorem corrB_apply (q : Fin 503) (c : Fin 3) :
    corrB (F := Ideal) X1 X2 X4 (ix3 0 (Fin.castLE (by decide) q) c) = matched (pts X1) (pts X2) (pts X4) q c := by
  refine (pay3_apply _ _ _ _).trans ((select_kept X1 X2 _ q c).trans ?_)
  rw [rows_apply]
  generalize hk : keep (pts X1) (pts X2) q = i
  have h : 128 * (i.val / 128) + i.val % 128 < 1290 := by omega
  refine (cdT_apply X1 X2 X4 (t := i.val / 128) (by omega) ⟨i.val % 128, _⟩ h c).trans ?_
  rw [tile_eq, ← hk]
  rfl

end Cert.Proof.KI

end
-- ==== Proof.Value.Arrays.lean ====
/-
  The kernel's arrays: what its windows read of the arguments, and what its two results hold once every block is written.
-/
module

public import proofs.«01_k».proof.Proof.Dats
public import proofs.«01_k».proof.Proof.Value.Result
public import Idealize.ShloMosaic.Lib.Pipeline.Value
public import Idealize.ShloMosaic.Lib.StableHlo.ReadAt

@[expose] public section

set_option maxRecDepth 16384

noncomputable section

namespace Cert.Proof.KI

open Cert.KernelIdeal Cert.KernelIdeal.Gen Cert.Proof Cert.Proof.Spec
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments, turned -/

/-- The source embeddings with their last two axes exchanged. -/
theorem turned0 (b : Fin 8) (i : Fin 2048) (k : Fin 512) :
    (V m c main_call0_v0 : FVec Ideal S8x2048x512 .f32) (ix3 b i k) = (m ((c : Thread nD τ).loc main_arg0) : FVec Ideal S8x512x2048 .f32) (ix3 b k i) := by
  unfold V
  after_reads_at

/-- The target embeddings with their last two axes exchanged. -/
theorem turned1 (b : Fin 8) (i : Fin 2048) (k : Fin 512) :
    (V m c main_call0_v1 : FVec Ideal S8x2048x512 .f32) (ix3 b i k) = (m ((c : Thread nD τ).loc main_arg1) : FVec Ideal S8x512x2048 .f32) (ix3 b k i) := by
  unfold V
  after_reads_at

/-- The source points with their last two axes exchanged. -/
theorem turned2 (b : Fin 8) (i : Fin 2048) (k : Fin 3) :
    (V m c main_call0_v2 : FVec Ideal S8x2048x3 .f32) (ix3 b i k) = (m ((c : Thread nD τ).loc main_arg2) : FVec Ideal S8x3x2048 .f32) (ix3 b k i) := by
  unfold V
  after_reads_at

/-- The target points with their last two axes exchanged. -/
theorem turned3 (b : Fin 8) (i : Fin 2048) (k : Fin 3) :
    (V m c main_call0_v3 : FVec Ideal S8x2048x3 .f32) (ix3 b i k) = (m ((c : Thread nD τ).loc main_arg3) : FVec Ideal S8x3x2048 .f32) (ix3 b k i) := by
  unfold V
  after_reads_at

/-! ## The blocks -/

/-- The point of a batch. -/
def pointOf (b : Fin 8) : Fin cfg0.N := ⟨b.val, Nat.lt_of_lt_of_eq b.isLt N_0.symm⟩

/-- Window 0's block at a point starts at its batch. -/
theorem off0 : ∀ t : Fin cfg0.N, win0_0.index t 0 * win0_0.size 0 = t.val ∧ win0_0.index t 1 * win0_0.size 1 = 0 ∧ win0_0.index t 2 * win0_0.size 2 = 0 := by
  decide +kernel

/-- The block of a batch is that batch of the source embeddings, one row a point. -/
theorem block0 (b : Fin 8) (i : Fin 2048) (k : Fin 512) :
    (iblk m c 0 (pointOf b) : FVec Ideal S1x2048x512 .f32) (ix3 0 i k) = (m ((c : Thread nD τ).loc main_arg0) : FVec Ideal S8x512x2048 .f32) (ix3 b k i) := by
  refine Eq.trans ?_ (turned0 m c b i k)
  show (V m c main_call0_v0 : FVec Ideal S8x2048x512 .f32) _ = _
  refine congrArg (V m c main_call0_v0 : FVec Ideal S8x2048x512 .f32) (funext fun a => Fin.ext ?_)
  have e := off0 (pointOf b)
  match a with
  | ⟨0, _⟩ => show win0_0.index (pointOf b) 0 * win0_0.size 0 + 1 * 0 = b.val; rw [e.1]; rfl
  | ⟨1, _⟩ => show win0_0.index (pointOf b) 1 * win0_0.size 1 + 1 * i.val = i.val; rw [e.2.1]; omega
  | ⟨2, _⟩ => show win0_0.index (pointOf b) 2 * win0_0.size 2 + 1 * k.val = k.val; rw [e.2.2]; omega

/-- Window 1's block at a point starts at its batch. -/
theorem off1 : ∀ t : Fin cfg0.N, win0_1.index t 0 * win0_1.size 0 = t.val ∧ win0_1.index t 1 * win0_1.size 1 = 0 ∧ win0_1.index t 2 * win0_1.size 2 = 0 := by
  decide +kernel

/-- The block of a batch is that batch of the target embeddings, one row a point. -/
theorem block1 (b : Fin 8) (i : Fin 2048) (k : Fin 512) :
    (iblk m c 1 (pointOf b) : FVec Ideal S1x2048x512 .f32) (ix3 0 i k) = (m ((c : Thread nD τ).loc main_arg1) : FVec Ideal S8x512x2048 .f32) (ix3 b k i) := by
  refine Eq.trans ?_ (turned1 m c b i k)
  show (V m c main_call0_v1 : FVec Ideal S8x2048x512 .f32) _ = _
  refine congrArg (V m c main_call0_v1 : FVec Ideal S8x2048x512 .f32) (funext fun a => Fin.ext ?_)
  have e := off1 (pointOf b)
  match a with
  | ⟨0, _⟩ => show win0_1.index (pointOf b) 0 * win0_1.size 0 + 1 * 0 = b.val; rw [e.1]; rfl
  | ⟨1, _⟩ => show win0_1.index (pointOf b) 1 * win0_1.size 1 + 1 * i.val = i.val; rw [e.2.1]; omega
  | ⟨2, _⟩ => show win0_1.index (pointOf b) 2 * win0_1.size 2 + 1 * k.val = k.val; rw [e.2.2]; omega

/-- Window 2's block at a point starts at its batch. -/
theorem off2 : ∀ t : Fin cfg0.N, win0_2.index t 0 * win0_2.size 0 = t.val ∧ win0_2.index t 1 * win0_2.size 1 = 0 ∧ win0_2.index t 2 * win0_2.size 2 = 0 := by
  decide +kernel

/-- The block of a batch is that batch of the source points, one row a point. -/
theorem block2 (b : Fin 8) (i : Fin 2048) (k : Fin 3) :
    (iblk m c 2 (pointOf b) : FVec Ideal S1x2048x3 .f32) (ix3 0 i k) = (m ((c : Thread nD τ).loc main_arg2) : FVec Ideal S8x3x2048 .f32) (ix3 b k i) := by
  refine Eq.trans ?_ (turned2 m c b i k)
  show (V m c main_call0_v2 : FVec Ideal S8x2048x3 .f32) _ = _
  refine congrArg (V m c main_call0_v2 : FVec Ideal S8x2048x3 .f32) (funext fun a => Fin.ext ?_)
  have e := off2 (pointOf b)
  match a with
  | ⟨0, _⟩ => show win0_2.index (pointOf b) 0 * win0_2.size 0 + 1 * 0 = b.val; rw [e.1]; rfl
  | ⟨1, _⟩ => show win0_2.index (pointOf b) 1 * win0_2.size 1 + 1 * i.val = i.val; rw [e.2.1]; omega
  | ⟨2, _⟩ => show win0_2.index (pointOf b) 2 * win0_2.size 2 + 1 * k.val = k.val; rw [e.2.2]; omega

/-- Window 3's block at a point starts at its batch. -/
theorem off3 : ∀ t : Fin cfg0.N, win0_3.index t 0 * win0_3.size 0 = t.val ∧ win0_3.index t 1 * win0_3.size 1 = 0 ∧ win0_3.index t 2 * win0_3.size 2 = 0 := by
  decide +kernel

/-- The block of a batch is that batch of the target points, one row a point. -/
theorem block3 (b : Fin 8) (i : Fin 2048) (k : Fin 3) :
    (iblk m c 3 (pointOf b) : FVec Ideal S1x2048x3 .f32) (ix3 0 i k) = (m ((c : Thread nD τ).loc main_arg3) : FVec Ideal S8x3x2048 .f32) (ix3 b k i) := by
  refine Eq.trans ?_ (turned3 m c b i k)
  show (V m c main_call0_v3 : FVec Ideal S8x2048x3 .f32) _ = _
  refine congrArg (V m c main_call0_v3 : FVec Ideal S8x2048x3 .f32) (funext fun a => Fin.ext ?_)
  have e := off3 (pointOf b)
  match a with
  | ⟨0, _⟩ => show win0_3.index (pointOf b) 0 * win0_3.size 0 + 1 * 0 = b.val; rw [e.1]; rfl
  | ⟨1, _⟩ => show win0_3.index (pointOf b) 1 * win0_3.size 1 + 1 * i.val = i.val; rw [e.2.1]; omega
  | ⟨2, _⟩ => show win0_3.index (pointOf b) 2 * win0_3.size 2 + 1 * k.val = k.val; rw [e.2.2]; omega

/-! ## The results -/

/-- The array of the kept source points: each batch's block of them. -/
def whole4 : Buf (Elt Ideal) ((c : Thread nD τ).loc main_call0_v4_0) := fun i : S8x512x3.Idx =>
  outB (iblk m c 0 (pointOf (i 0))) (iblk m c 1 (pointOf (i 0))) (iblk m c 2 (pointOf (i 0))) (ix3 0 (i 1) (i 2))

/-- The first result's block at a point starts at its batch. -/
theorem off4 : ∀ t : Fin cfg0.N, win0_4.index t 0 * win0_4.size 0 = t.val ∧ win0_4.index t 1 * win0_4.size 1 = 0 ∧ win0_4.index t 2 * win0_4.size 2 = 0 := by
  decide +kernel

/-- The first result's block is one batch, all rows and columns. -/
theorem size4 : ∀ t : Fin cfg0.N, win0_4.xsize (grid0.coords t) 0 = 1 ∧ win0_4.xsize (grid0.coords t) 1 = 512 ∧ win0_4.xsize (grid0.coords t) 2 = 3 := by
  decide +kernel

/-- Where an index of a point's block lies in the first result's array. -/
theorem part4 (t : Fin cfg0.N) (y : S1x512x3.Idx) : ((win0_4.rect t).emb y : S8x512x3.Idx) = ix3 ⟨t.val, Nat.lt_of_lt_of_eq t.isLt N_0⟩ (y 1) (y 2) := by
  funext a
  refine Fin.ext ?_
  have e := off4 t
  have h0 : (y 0).val < 1 := (y 0).isLt
  match a with
  | ⟨0, _⟩ => show win0_4.index t 0 * win0_4.size 0 + 1 * (y 0).val = t.val; rw [e.1]; omega
  | ⟨1, _⟩ => show win0_4.index t 1 * win0_4.size 1 + 1 * (y 1).val = (y 1).val; rw [e.2.1]; omega
  | ⟨2, _⟩ => show win0_4.index t 2 * win0_4.size 2 + 1 * (y 2).val = (y 2).val; rw [e.2.2]; omega

/-- What a point writes back is its block of that array. -/
theorem flushed4 (t : Fin cfg0.N) : (dats m 0 c).flushed 4 t = (win0_4.blk t).view.read (Elt Ideal) (whole4 m c) := by
  show (cfg0.win 4).cut (grid0.coords t) ((dats m 0 c).after 4 t) = _
  funext y
  show outB (iblk m c 0 t) (iblk m c 1 t) (iblk m c 2 t) (y : S1x512x3.Idx) = whole4 m c ((win0_4.rect t).emb y : S8x512x3.Idx)
  rw [part4]
  show _ = outB (iblk m c 0 t) (iblk m c 1 t) (iblk m c 2 t) (ix3 0 ((y : S1x512x3.Idx) 1) ((y : S1x512x3.Idx) 2))
  refine congrArg (outB (iblk m c 0 t) (iblk m c 1 t) (iblk m c 2 t)) (funext fun a => ?_)
  match a with
  | ⟨0, _⟩ => exact Fin.ext (Nat.lt_one_iff.mp ((y : S1x512x3.Idx) 0).isLt)
  | ⟨1, _⟩ => rfl
  | ⟨2, _⟩ => rfl

/-- The blocks cover it. -/
theorem cover4 (i : S8x512x3.Idx) : ∃ t : Fin cfg0.N, (cfg0.win 4).flush t = true ∧ i ∈ ((cfg0.win 4).blk t).view.set := by
  refine ⟨pointOf (i 0), flush0_4 _, ?_⟩
  show i ∈ ((View.whole main_call0_v4_0).slice (win0_4.rect (pointOf (i 0)))).set
  rw [View.set_slice_whole, Rect.mem_set_unit]
  have e := off4 (pointOf (i 0))
  have x := size4 (pointOf (i 0))
  have h1 : (i 1).val < 512 := (i 1).isLt
  have h2 : (i 2).val < 3 := (i 2).isLt
  have hp : (pointOf (i 0)).val = (i 0).val := rfl
  intro a
  match a with
  | ⟨0, _⟩ =>
    show win0_4.index (pointOf (i 0)) 0 * win0_4.size 0 ≤ (i 0).val ∧ (i 0).val < win0_4.index (pointOf (i 0)) 0 * win0_4.size 0 + win0_4.xsize (grid0.coords (pointOf (i 0))) 0
    rw [e.1, x.1, hp]; omega
  | ⟨1, _⟩ =>
    show win0_4.index (pointOf (i 0)) 1 * win0_4.size 1 ≤ (i 1).val ∧ (i 1).val < win0_4.index (pointOf (i 0)) 1 * win0_4.size 1 + win0_4.xsize (grid0.coords (pointOf (i 0))) 1
    rw [e.2.1, x.2.1]; omega
  | ⟨2, _⟩ =>
    show win0_4.index (pointOf (i 0)) 2 * win0_4.size 2 ≤ (i 2).val ∧ (i 2).val < win0_4.index (pointOf (i 0)) 2 * win0_4.size 2 + win0_4.xsize (grid0.coords (pointOf (i 0))) 2
    rw [e.2.2, x.2.2]; omega

/-- The first result's array once every block is written. -/
theorem final4 : (dats m 0 c).arrAt 4 cfg0.N = whole4 m c :=
  (dats m 0 c).arrAt_eq_of_cover 4 (whole4 m c) (fun t _ => flushed4 m c t) cover4

/-- The first result, entry by entry, as an entry of its batch's block. -/
theorem tail4 (b : Fin 8) (k : Fin 3) (q : Fin 503) :
    (Pipeline.afterTail₀ cfgs (dats m) 0 (V0 m) [hostOps1] c main_v0_0 : FVec Ideal S8x3x503 .f32) (ix3 b k q)
      = outB (iblk m c 0 (pointOf b)) (iblk m c 1 (pointOf b)) (iblk m c 2 (pointOf b)) (ix3 0 (Fin.castLE (by decide) q) k) := by
  have hw : Pipeline.withArrays spec0 c (V0 m c) (fun w => (dats m 0 c).arrAt w cfg0.N) (Proc.devRef .tc main_call0_v4_0) = whole4 m c :=
    (Pipeline.withArrays_arr spec0 (by decide) c (V0 m c) (fun w => (dats m 0 c).arrAt w cfg0.N) 4).trans (final4 m c)
  unfold Pipeline.afterTail₀
  generalize hW : Pipeline.withArrays (cfgs 0).spec c (V0 m c) (fun w => (dats m 0 c).arrAt w (cfgs 0).N) = W
  have hW' : W (Proc.devRef .tc main_call0_v4_0) = whole4 m c := by rw [← hW]; exact hw
  after_reads_at
  rw [hW']
  rfl

/-- The array of the best target points: each batch's block of them. -/
def whole5 : Buf (Elt Ideal) ((c : Thread nD τ).loc main_call0_v4_1) := fun i : S8x512x3.Idx =>
  corrB (iblk m c 0 (pointOf (i 0))) (iblk m c 1 (pointOf (i 0))) (iblk m c 3 (pointOf (i 0))) (ix3 0 (i 1) (i 2))

/-- The second result's block at a point starts at its batch. -/
theorem off5 : ∀ t : Fin cfg0.N, win0_5.index t 0 * win0_5.size 0 = t.val ∧ win0_5.index t 1 * win0_5.size 1 = 0 ∧ win0_5.index t 2 * win0_5.size 2 = 0 := by
  decide +kernel

/-- The second result's block is one batch, all rows and columns. -/
theorem size5 : ∀ t : Fin cfg0.N, win0_5.xsize (grid0.coords t) 0 = 1 ∧ win0_5.xsize (grid0.coords t) 1 = 512 ∧ win0_5.xsize (grid0.coords t) 2 = 3 := by
  decide +kernel

/-- Where an index of a point's block lies in the second result's array. -/
theorem part5 (t : Fin cfg0.N) (y : S1x512x3.Idx) : ((win0_5.rect t).emb y : S8x512x3.Idx) = ix3 ⟨t.val, Nat.lt_of_lt_of_eq t.isLt N_0⟩ (y 1) (y 2) := by
  funext a
  refine Fin.ext ?_
  have e := off5 t
  have h0 : (y 0).val < 1 := (y 0).isLt
  match a with
  | ⟨0, _⟩ => show win0_5.index t 0 * win0_5.size 0 + 1 * (y 0).val = t.val; rw [e.1]; omega
  | ⟨1, _⟩ => show win0_5.index t 1 * win0_5.size 1 + 1 * (y 1).val = (y 1).val; rw [e.2.1]; omega
  | ⟨2, _⟩ => show win0_5.index t 2 * win0_5.size 2 + 1 * (y 2).val = (y 2).val; rw [e.2.2]; omega

/-- What a point writes back is its block of that array. -/
theorem flushed5 (t : Fin cfg0.N) : (dats m 0 c).flushed 5 t = (win0_5.blk t).view.read (Elt Ideal) (whole5 m c) := by
  show (cfg0.win 5).cut (grid0.coords t) ((dats m 0 c).after 5 t) = _
  funext y
  show corrB (iblk m c 0 t) (iblk m c 1 t) (iblk m c 3 t) (y : S1x512x3.Idx) = whole5 m c ((win0_5.rect t).emb y : S8x512x3.Idx)
  rw [part5]
  show _ = corrB (iblk m c 0 t) (iblk m c 1 t) (iblk m c 3 t) (ix3 0 ((y : S1x512x3.Idx) 1) ((y : S1x512x3.Idx) 2))
  refine congrArg (corrB (iblk m c 0 t) (iblk m c 1 t) (iblk m c 3 t)) (funext fun a => ?_)
  match a with
  | ⟨0, _⟩ => exact Fin.ext (Nat.lt_one_iff.mp ((y : S1x512x3.Idx) 0).isLt)
  | ⟨1, _⟩ => rfl
  | ⟨2, _⟩ => rfl

/-- The blocks cover it. -/
theorem cover5 (i : S8x512x3.Idx) : ∃ t : Fin cfg0.N, (cfg0.win 5).flush t = true ∧ i ∈ ((cfg0.win 5).blk t).view.set := by
  refine ⟨pointOf (i 0), flush0_5 _, ?_⟩
  show i ∈ ((View.whole main_call0_v4_1).slice (win0_5.rect (pointOf (i 0)))).set
  rw [View.set_slice_whole, Rect.mem_set_unit]
  have e := off5 (pointOf (i 0))
  have x := size5 (pointOf (i 0))
  have h1 : (i 1).val < 512 := (i 1).isLt
  have h2 : (i 2).val < 3 := (i 2).isLt
  have hp : (pointOf (i 0)).val = (i 0).val := rfl
  intro a
  match a with
  | ⟨0, _⟩ =>
    show win0_5.index (pointOf (i 0)) 0 * win0_5.size 0 ≤ (i 0).val ∧ (i 0).val < win0_5.index (pointOf (i 0)) 0 * win0_5.size 0 + win0_5.xsize (grid0.coords (pointOf (i 0))) 0
    rw [e.1, x.1, hp]; omega
  | ⟨1, _⟩ =>
    show win0_5.index (pointOf (i 0)) 1 * win0_5.size 1 ≤ (i 1).val ∧ (i 1).val < win0_5.index (pointOf (i 0)) 1 * win0_5.size 1 + win0_5.xsize (grid0.coords (pointOf (i 0))) 1
    rw [e.2.1, x.2.1]; omega
  | ⟨2, _⟩ =>
    show win0_5.index (pointOf (i 0)) 2 * win0_5.size 2 ≤ (i 2).val ∧ (i 2).val < win0_5.index (pointOf (i 0)) 2 * win0_5.size 2 + win0_5.xsize (grid0.coords (pointOf (i 0))) 2
    rw [e.2.2, x.2.2]; omega

/-- The second result's array once every block is written. -/
theorem final5 : (dats m 0 c).arrAt 5 cfg0.N = whole5 m c :=
  (dats m 0 c).arrAt_eq_of_cover 5 (whole5 m c) (fun t _ => flushed5 m c t) cover5

/-- The second result, entry by entry, as an entry of its batch's block. -/
theorem tail5 (b : Fin 8) (k : Fin 3) (q : Fin 503) :
    (Pipeline.afterTail₀ cfgs (dats m) 0 (V0 m) [hostOps1] c main_v0_1 : FVec Ideal S8x3x503 .f32) (ix3 b k q)
      = corrB (iblk m c 0 (pointOf b)) (iblk m c 1 (pointOf b)) (iblk m c 3 (pointOf b)) (ix3 0 (Fin.castLE (by decide) q) k) := by
  have hw : Pipeline.withArrays spec0 c (V0 m c) (fun w => (dats m 0 c).arrAt w cfg0.N) (Proc.devRef .tc main_call0_v4_1) = whole5 m c :=
    (Pipeline.withArrays_arr spec0 (by decide) c (V0 m c) (fun w => (dats m 0 c).arrAt w cfg0.N) 5).trans (final5 m c)
  unfold Pipeline.afterTail₀
  generalize hW : Pipeline.withArrays (cfgs 0).spec c (V0 m c) (fun w => (dats m 0 c).arrAt w (cfgs 0).N) = W
  have hW' : W (Proc.devRef .tc main_call0_v4_1) = whole5 m c := by rw [← hW]; exact hw
  after_reads_at
  rw [hW']
  rfl

end Cert.Proof.KI
-- ==== Proof.Value.Towers.lean ====
/-
  The reference's arrays of weights, read at an index: its scores, its softmaxes and their sums.
-/
module

public import proofs.«01_k».proof.Proof.Gen.ReferenceIdeal
public import proofs.«01_k».proof.Proof.Value.Words
public import proofs.«01_k».proof.Proof.Value.Spec
public import Idealize.ShloMosaic.Lib.Pointwise

@[expose] public section

set_option maxRecDepth 16384

noncomputable section

namespace Cert.Proof.RI

open Cert.ReferenceIdeal Cert.ReferenceIdeal.Gen Cert.Proof Cert.Proof.Spec
open Idealize.ShloMosaic

/-- The reference adds up a score in another order. -/
theorem score_order (a s c : EReal) : -a - -2 * s - c = 2 * s - a - c := by
  rw [EReal.neg_mul, sub_eq_add_neg (-a), neg_neg, add_comm, ← sub_eq_add_neg]

/-- The maximum's fold, with minus infinity once more. -/
theorem fold_top {n : ℕ} (s : Fin n → EReal) :
    max (Ideal.ofBits .f32 0xFF800000#32) (Finset.univ.fold max (Ideal.ofBits .f32 0xFF800000#32) s) = top s := by
  rw [ninf_eq, fold_max]
  exact max_eq_right bot_le

/-- The scores of all the points. -/
theorem scores_all (X Y : FVec Ideal S8x512x2048 .f32) (b : Fin 8) (i j : Fin 2048) :
    (subf (subf (broadcastInDim S8x2048x2048 ![0, 1, 2] bcast_S8x2048x1_S8x2048x2048_0_1_2 (Host.negf (transpose S8x2048x1 [0, 2, 1] (broadcastInDim S8x1x2048 ![0, 2] bcast_S8x2048_S8x1x2048_0_2 (Host.reduceAdd (mulf X X) (constant S_ .f32 0x00000000#32) reducesTo_S8x512x2048_S8x2048_d1 h_S_)) transposes_S8x1x2048_S8x2048x1_0_2_1))) (mulf (broadcastInDim S8x2048x2048 ![] bcast_S_S8x2048x2048 (constant S_ .f32 0xC0000000#32)) (Host.dotGeneral dot_S8x2048x512_S8x512x2048_S8x2048x2048_2_1_1_2_0_0 none (transpose S8x2048x512 [0, 2, 1] X transposes_S8x512x2048_S8x2048x512_0_2_1) Y))) (broadcastInDim S8x2048x2048 ![0, 1, 2] bcast_S8x1x2048_S8x2048x2048_0_1_2 (broadcastInDim S8x1x2048 ![0, 2] bcast_S8x2048_S8x1x2048_0_2 (Host.reduceAdd (mulf Y Y) (constant S_ .f32 0x00000000#32) reducesTo_S8x512x2048_S8x2048_d1 h_S_))) : FVec Ideal S8x2048x2048 .f32) (ix3 b i j)
      = score (fun i k => X (ix3 b k i)) (fun j k => Y (ix3 b k j)) i j := by
  pointwise
  rw [neg_two_eq, score_order]
  rfl

/-- The scores of the selected points. -/
theorem scores_sel (X Y : FVec Ideal S8x512x1290 .f32) (b : Fin 8) (i j : Fin 1290) :
    (subf (subf (broadcastInDim S8x1290x1290 ![0, 1, 2] bcast_S8x1290x1_S8x1290x1290_0_1_2 (Host.negf (transpose S8x1290x1 [0, 2, 1] (broadcastInDim S8x1x1290 ![0, 2] bcast_S8x1290_S8x1x1290_0_2 (Host.reduceAdd (mulf X X) (constant S_ .f32 0x00000000#32) reducesTo_S8x512x1290_S8x1290_d1 h_S_)) transposes_S8x1x1290_S8x1290x1_0_2_1))) (mulf (broadcastInDim S8x1290x1290 ![] bcast_S_S8x1290x1290 (constant S_ .f32 0xC0000000#32)) (Host.dotGeneral dot_S8x1290x512_S8x512x1290_S8x1290x1290_2_1_1_2_0_0 none (transpose S8x1290x512 [0, 2, 1] X transposes_S8x512x1290_S8x1290x512_0_2_1) Y))) (broadcastInDim S8x1290x1290 ![0, 1, 2] bcast_S8x1x1290_S8x1290x1290_0_1_2 (broadcastInDim S8x1x1290 ![0, 2] bcast_S8x1290_S8x1x1290_0_2 (Host.reduceAdd (mulf Y Y) (constant S_ .f32 0x00000000#32) reducesTo_S8x512x1290_S8x1290_d1 h_S_))) : FVec Ideal S8x1290x1290 .f32) (ix3 b i j)
      = score (fun i k => X (ix3 b k i)) (fun j k => Y (ix3 b k j)) i j := by
  pointwise
  rw [neg_two_eq, score_order]
  rfl

/-- The greatest score of a row. -/
theorem greatest_row (S : FVec Ideal S8x2048x2048 .f32) (b : Fin 8) (i : Fin 2048) :
    ((Host.reduce FloatOps.maximumf S (constant S_ .f32 0xFF800000#32) reducesTo_S8x2048x2048_S8x2048_d2 h_S_) : FVec Ideal S8x2048 .f32) (ix2 b i)
      = Finset.univ.fold max (Ideal.ofBits .f32 0xFF800000#32) (fun j => S (ix3 b i j)) := by
  pointwise

/-- An exponential of a score less a given value, or minus infinity if that is greater. -/
theorem exp_of_row (S : FVec Ideal S8x2048x2048 .f32) (M : FVec Ideal S8x2048 .f32) (b : Fin 8) (i j : Fin 2048) :
    (Host.exp (subf S (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) M)))) : FVec Ideal S8x2048x2048 .f32) (ix3 b i j)
      = Ideal.exp (S (ix3 b i j) - max (Ideal.ofBits .f32 0xFF800000#32) (M (ix2 b i))) := by
  pointwise

/-- An exponential of a score less its row's greatest. -/
theorem exp_row (S : FVec Ideal S8x2048x2048 .f32) (b : Fin 8) (i j : Fin 2048) :
    (Host.exp (subf S (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (Host.reduce FloatOps.maximumf S (constant S_ .f32 0xFF800000#32) reducesTo_S8x2048x2048_S8x2048_d2 h_S_))))) : FVec Ideal S8x2048x2048 .f32) (ix3 b i j)
      = Ideal.exp (S (ix3 b i j) - top fun j => S (ix3 b i j)) := by
  rw [exp_of_row, greatest_row, fold_top]

/-- The greatest score of a column. -/
theorem greatest_col (S : FVec Ideal S8x2048x2048 .f32) (b : Fin 8) (j : Fin 2048) :
    ((Host.reduce FloatOps.maximumf S (constant S_ .f32 0xFF800000#32) reducesTo_S8x2048x2048_S8x2048_d1 h_S_) : FVec Ideal S8x2048 .f32) (ix2 b j)
      = Finset.univ.fold max (Ideal.ofBits .f32 0xFF800000#32) (fun i => S (ix3 b i j)) := by
  pointwise

/-- An exponential of a score less a given value, or minus infinity if that is greater. -/
theorem exp_of_col (S : FVec Ideal S8x2048x2048 .f32) (M : FVec Ideal S8x2048 .f32) (b : Fin 8) (i j : Fin 2048) :
    (Host.exp (subf S (broadcastInDim S8x2048x2048 ![0, 1, 2] bcast_S8x1x2048_S8x2048x2048_0_1_2 (broadcastInDim S8x1x2048 ![0, 2] bcast_S8x2048_S8x1x2048_0_2 (maximumf (broadcastInDim S8x2048 ![] bcast_S_S8x2048 (constant S_ .f32 0xFF800000#32)) M)))) : FVec Ideal S8x2048x2048 .f32) (ix3 b i j)
      = Ideal.exp (S (ix3 b i j) - max (Ideal.ofBits .f32 0xFF800000#32) (M (ix2 b j))) := by
  pointwise

/-- An exponential of a score less its column's greatest. -/
theorem exp_col (S : FVec Ideal S8x2048x2048 .f32) (b : Fin 8) (i j : Fin 2048) :
    (Host.exp (subf S (broadcastInDim S8x2048x2048 ![0, 1, 2] bcast_S8x1x2048_S8x2048x2048_0_1_2 (broadcastInDim S8x1x2048 ![0, 2] bcast_S8x2048_S8x1x2048_0_2 (maximumf (broadcastInDim S8x2048 ![] bcast_S_S8x2048 (constant S_ .f32 0xFF800000#32)) (Host.reduce FloatOps.maximumf S (constant S_ .f32 0xFF800000#32) reducesTo_S8x2048x2048_S8x2048_d1 h_S_))))) : FVec Ideal S8x2048x2048 .f32) (ix3 b i j)
      = Ideal.exp (S (ix3 b i j) - top fun i => S (ix3 b i j)) := by
  rw [exp_of_col, greatest_col, fold_top]

/-- The greatest score of a row. -/
theorem greatest_sel (S : FVec Ideal S8x1290x1290 .f32) (b : Fin 8) (i : Fin 1290) :
    ((Host.reduce FloatOps.maximumf S (constant S_ .f32 0xFF800000#32) reducesTo_S8x1290x1290_S8x1290_d2 h_S_) : FVec Ideal S8x1290 .f32) (ix2 b i)
      = Finset.univ.fold max (Ideal.ofBits .f32 0xFF800000#32) (fun j => S (ix3 b i j)) := by
  pointwise

/-- An exponential of a score less a given value, or minus infinity if that is greater. -/
theorem exp_of_sel (S : FVec Ideal S8x1290x1290 .f32) (M : FVec Ideal S8x1290 .f32) (b : Fin 8) (i j : Fin 1290) :
    (Host.exp (subf S (broadcastInDim S8x1290x1290 ![0, 1, 2] bcast_S8x1290x1_S8x1290x1290_0_1_2 (broadcastInDim S8x1290x1 ![0, 1] bcast_S8x1290_S8x1290x1_0_1 (maximumf (broadcastInDim S8x1290 ![] bcast_S_S8x1290 (constant S_ .f32 0xFF800000#32)) M)))) : FVec Ideal S8x1290x1290 .f32) (ix3 b i j)
      = Ideal.exp (S (ix3 b i j) - max (Ideal.ofBits .f32 0xFF800000#32) (M (ix2 b i))) := by
  pointwise

/-- An exponential of a selected score less its row's greatest. -/
theorem exp_sel (S : FVec Ideal S8x1290x1290 .f32) (b : Fin 8) (i j : Fin 1290) :
    (Host.exp (subf S (broadcastInDim S8x1290x1290 ![0, 1, 2] bcast_S8x1290x1_S8x1290x1290_0_1_2 (broadcastInDim S8x1290x1 ![0, 1] bcast_S8x1290_S8x1290x1_0_1 (maximumf (broadcastInDim S8x1290 ![] bcast_S_S8x1290 (constant S_ .f32 0xFF800000#32)) (Host.reduce FloatOps.maximumf S (constant S_ .f32 0xFF800000#32) reducesTo_S8x1290x1290_S8x1290_d2 h_S_))))) : FVec Ideal S8x1290x1290 .f32) (ix3 b i j)
      = Ideal.exp (S (ix3 b i j) - top fun j => S (ix3 b i j)) := by
  rw [exp_of_sel, greatest_sel, fold_top]

/-- The sums down the columns of the rows' quotients. -/
theorem sum_col (E : FVec Ideal S8x2048x2048 .f32) (b : Fin 8) (j : Fin 2048) :
    (Host.reduceAdd (Host.divf E (broadcastInDim S8x2048x2048 ![0, 1, 2] bcast_S8x2048x1_S8x2048x2048_0_1_2 (broadcastInDim S8x2048x1 ![0, 1] bcast_S8x2048_S8x2048x1_0_1 (Host.reduceAdd E (constant S_ .f32 0x00000000#32) reducesTo_S8x2048x2048_S8x2048_d2 h_S_)))) (constant S_ .f32 0x00000000#32) reducesTo_S8x2048x2048_S8x2048_d1 h_S_ : FVec Ideal S8x2048 .f32) (ix2 b j)
      = ∑ i, Ideal.div (E (ix3 b i j)) (∑ j, E (ix3 b i j)) := by
  pointwise

/-- The sums along the rows of the columns' quotients. -/
theorem sum_row (E : FVec Ideal S8x2048x2048 .f32) (b : Fin 8) (i : Fin 2048) :
    (Host.reduceAdd (Host.divf E (broadcastInDim S8x2048x2048 ![0, 1, 2] bcast_S8x1x2048_S8x2048x2048_0_1_2 (broadcastInDim S8x1x2048 ![0, 2] bcast_S8x2048_S8x1x2048_0_2 (Host.reduceAdd E (constant S_ .f32 0x00000000#32) reducesTo_S8x2048x2048_S8x2048_d1 h_S_)))) (constant S_ .f32 0x00000000#32) reducesTo_S8x2048x2048_S8x2048_d2 h_S_ : FVec Ideal S8x2048 .f32) (ix2 b i)
      = ∑ j, Ideal.div (E (ix3 b i j)) (∑ i, E (ix3 b i j)) := by
  pointwise

/-- The rows' quotients over the selected points. -/
theorem quot_sel (E : FVec Ideal S8x1290x1290 .f32) (b : Fin 8) (i j : Fin 1290) :
    (Host.divf E (broadcastInDim S8x1290x1290 ![0, 1, 2] bcast_S8x1290x1_S8x1290x1290_0_1_2 (broadcastInDim S8x1290x1 ![0, 1] bcast_S8x1290_S8x1290x1_0_1 (Host.reduceAdd E (constant S_ .f32 0x00000000#32) reducesTo_S8x1290x1290_S8x1290_d2 h_S_))) : FVec Ideal S8x1290x1290 .f32) (ix3 b i j)
      = Ideal.div (E (ix3 b i j)) (∑ j, E (ix3 b i j)) := by
  pointwise

/-- The sum of a row of one value. -/
theorem sum_one (E : FVec Ideal S8x1290x1 .f32) (b : Fin 8) (i : Fin 1290) :
    (broadcastInDim S8x1290x1 ![0, 1] bcast_S8x1290_S8x1290x1_0_1 (Host.reduceAdd E (constant S_ .f32 0x00000000#32) reducesTo_S8x1290x1_S8x1290_d2 h_S_) : FVec Ideal S8x1290x1 .f32) (ix3 b i 0)
      = E (ix3 b i 0) := by
  pointwise
  exact Fin.sum_univ_one _

end Cert.Proof.RI
-- ==== Proof.Value.Gathers.lean ====
/-
  The reference's gathers, read at an index: the rows that an array of positions names. Its wrapping of negative
  positions and its masking of positions out of range change nothing at positions in range.
-/
module

public import proofs.«01_k».proof.Proof.Gen.ReferenceIdeal
public import proofs.«01_k».proof.Proof.Value.Words
public import Idealize.ShloMosaic.Lib.Pointwise

@[expose] public section

set_option maxRecDepth 16384

noncomputable section

namespace Cert.Proof.RI

open Cert.ReferenceIdeal Cert.ReferenceIdeal.Gen Cert.Proof Cert.Proof.Spec
open Idealize.ShloMosaic

/-- A position in range is not negative, so it is not moved. -/
theorem wrap_small {p : ℕ} (hp : p < 2 ^ 31) (a : BitVec 32) :
    Scalar.select (IntOp.cmpi .slt (BitVec.ofNat 32 p) 0#32) a (BitVec.ofNat 32 p) = BitVec.ofNat 32 p := by
  rw [cmpi_slt hp (by decide), select_bit, if_neg (Nat.not_lt_zero p)]

/-- A position below `n + 1` passes both of the mask's tests. -/
theorem in_range {p n : ℕ} (hp : p ≤ n) (hn : n < 2 ^ 31) :
    IntOp.andi (IntOp.cmpi .sge (BitVec.ofNat 32 p) 0#32) (IntOp.cmpi .sle (BitVec.ofNat 32 p) (BitVec.ofNat 32 n)) = 1#1 := by
  have h1 : IntOp.cmpi .sge (BitVec.ofNat 32 p) 0#32 = 1#1 := by
    show BitVec.ofBool ((0#32 : BitVec 32).sle (BitVec.ofNat 32 p)) = 1#1
    rw [show (0#32 : BitVec 32).sle (BitVec.ofNat 32 p) = true from by
      rw [BitVec.sle_iff_toInt_le, toInt_small (Nat.lt_of_le_of_lt hp hn)]; simp]
    rfl
  have h2 : IntOp.cmpi .sle (BitVec.ofNat 32 p) (BitVec.ofNat 32 n) = 1#1 := by
    show BitVec.ofBool ((BitVec.ofNat 32 p).sle (BitVec.ofNat 32 n)) = 1#1
    rw [show (BitVec.ofNat 32 p).sle (BitVec.ofNat 32 n) = true from by
      rw [BitVec.sle_iff_toInt_le, toInt_small (Nat.lt_of_le_of_lt hp hn), toInt_small hn]; exact_mod_cast hp]
    rfl
  rw [h1, h2]
  rfl

/-- The conjunction over one entry is that entry. -/
theorem fold_one (f : Fin 1 → BitVec 1) : Finset.univ.fold IntOp.andi (1#1) f = f 0 := by
  rw [show (Finset.univ : Finset (Fin 1)) = {0} from rfl, Finset.fold_singleton]
  show f 0 &&& 1#1 = f 0
  generalize f 0 = w
  revert w
  decide

/-- A choice on the bit one takes the first. -/
theorem select_one {α : Type} (a b : α) : Scalar.select 1#1 a b = a := rfl

/-- A position in range is the row that a gather clamps it to. -/
theorem clamp_small {p n : ℕ} (hp : p ≤ n) (hn : n < 2 ^ 31) : min (BitVec.ofNat 32 p).toInt.toNat n = p := by
  rw [toInt_small (Nat.lt_of_le_of_lt hp hn), Int.toNat_natCast]
  exact Nat.min_eq_left hp

/-- A gather from the embeddings at an index in range reads that row. -/
theorem gather_emb {α : Type} (x : Shape.Idx S8x2048x512 → α) (i : IVec S8x1290x1 32) (b : Fin 8) (r : Fin 1290) (k : Fin 512) (p : Fin 2048)
    (h : i (ix3 b r 0) = BitVec.ofNat 32 p.val) : Host.gather gather_S8x2048x512_S8x1290x1_S8x1290x512_2_1_0_0_1_2_11512 x i (ix3 b r k) = x (ix3 b p k) := by
  unfold Host.gather
  congr 1
  funext a
  refine Fin.ext ?_
  show (gather_S8x2048x512_S8x1290x1_S8x1290x512_2_1_0_0_1_2_11512).start (ix3 b r k) i a + (gather_S8x2048x512_S8x1290x1_S8x1290x512_2_1_0_0_1_2_11512).batchCoord (ix3 b r k) a + (gather_S8x2048x512_S8x1290x1_S8x1290x512_2_1_0_0_1_2_11512).offCoord (ix3 b r k) a = _
  have hs : (gather_S8x2048x512_S8x1290x1_S8x1290x512_2_1_0_0_1_2_11512).siIdx (ix3 b r k) ⟨0, Nat.one_pos⟩ = (ix3 b r 0) := by
    funext b
    match b with
    | ⟨0, _⟩ => rfl
    | ⟨1, _⟩ => rfl
    | ⟨2, _⟩ => rfl
  have h1 : (gather_S8x2048x512_S8x1290x1_S8x1290x512_2_1_0_0_1_2_11512).start (ix3 b r k) i 1 = p.val :=
    (congrArg (fun w : BitVec 32 => min w.toInt.toNat 2047) ((congrArg i hs).trans h)).trans (clamp_small (Nat.le_of_lt_succ p.isLt) (by decide))
  match a with
  | ⟨0, _⟩ => exact Nat.zero_add _
  | ⟨1, _⟩ => exact h1
  | ⟨2, _⟩ => exact Nat.zero_add _
/-- The reference's guarded gather from the embeddings: at an index in range it reads that row, and the guard passes. -/
theorem take_emb (x : FVec Ideal S8x2048x512 .f32) (i : IVec S8x1290x1 32) (b : Fin 8) (r : Fin 1290) (k : Fin 512) (p : Fin 2048) (h : i (ix3 b r 0) = BitVec.ofNat 32 p.val) :
    (select (broadcastInDim S8x1290x512 ![0, 1] bcast_S8x1290_S8x1290x512_0_1 (Host.reduce IntOp.andi (andi (cmpi .sge i (broadcastInDim S8x1290x1 ![] bcast_S_S8x1290x1 (constantI S_ 32 0#32))) (cmpi .sle i (broadcastInDim S8x1290x1 ![0, 1, 2] bcast_S1x1x1_S8x1290x1_0_1_2 (broadcastInDim S1x1x1 ![2] bcast_S1_S1x1x1_2 (constantI S1 32 2047#32))))) (constantI S_ 1 1#1) reducesTo_S8x1290x1_S8x1290_d2 h_S_)) (Host.gather gather_S8x2048x512_S8x1290x1_S8x1290x512_2_1_0_0_1_2_11512 x i) (broadcastInDim S8x1290x512 ![] bcast_S_S8x1290x512 (constant S_ .f32 0x7FC00000#32)) : FVec Ideal S8x1290x512 .f32) (ix3 b r k)
      = x (ix3 b p k) := by
  pointwise
  rw [fold_one, h, in_range (Nat.le_of_lt_succ p.isLt) (by decide), select_one]
  exact gather_emb x i b r k p h

/-- A gather from the points at an index in range reads that row. -/
theorem gather_pts {α : Type} (x : Shape.Idx S8x2048x3 → α) (i : IVec S8x1290x1 32) (b : Fin 8) (r : Fin 1290) (k : Fin 3) (p : Fin 2048)
    (h : i (ix3 b r 0) = BitVec.ofNat 32 p.val) : Host.gather gather_S8x2048x3_S8x1290x1_S8x1290x3_2_1_0_0_1_2_113 x i (ix3 b r k) = x (ix3 b p k) := by
  unfold Host.gather
  congr 1
  funext a
  refine Fin.ext ?_
  show (gather_S8x2048x3_S8x1290x1_S8x1290x3_2_1_0_0_1_2_113).start (ix3 b r k) i a + (gather_S8x2048x3_S8x1290x1_S8x1290x3_2_1_0_0_1_2_113).batchCoord (ix3 b r k) a + (gather_S8x2048x3_S8x1290x1_S8x1290x3_2_1_0_0_1_2_113).offCoord (ix3 b r k) a = _
  have hs : (gather_S8x2048x3_S8x1290x1_S8x1290x3_2_1_0_0_1_2_113).siIdx (ix3 b r k) ⟨0, Nat.one_pos⟩ = (ix3 b r 0) := by
    funext b
    match b with
    | ⟨0, _⟩ => rfl
    | ⟨1, _⟩ => rfl
    | ⟨2, _⟩ => rfl
  have h1 : (gather_S8x2048x3_S8x1290x1_S8x1290x3_2_1_0_0_1_2_113).start (ix3 b r k) i 1 = p.val :=
    (congrArg (fun w : BitVec 32 => min w.toInt.toNat 2047) ((congrArg i hs).trans h)).trans (clamp_small (Nat.le_of_lt_succ p.isLt) (by decide))
  match a with
  | ⟨0, _⟩ => exact Nat.zero_add _
  | ⟨1, _⟩ => exact h1
  | ⟨2, _⟩ => exact Nat.zero_add _
/-- The reference's guarded gather from the points: at an index in range it reads that row, and the guard passes. -/
theorem take_pts (x : FVec Ideal S8x2048x3 .f32) (i : IVec S8x1290x1 32) (b : Fin 8) (r : Fin 1290) (k : Fin 3) (p : Fin 2048) (h : i (ix3 b r 0) = BitVec.ofNat 32 p.val) :
    (select (broadcastInDim S8x1290x3 ![0, 1] bcast_S8x1290_S8x1290x3_0_1 (Host.reduce IntOp.andi (andi (cmpi .sge i (broadcastInDim S8x1290x1 ![] bcast_S_S8x1290x1 (constantI S_ 32 0#32))) (cmpi .sle i (broadcastInDim S8x1290x1 ![0, 1, 2] bcast_S1x1x1_S8x1290x1_0_1_2 (broadcastInDim S1x1x1 ![2] bcast_S1_S1x1x1_2 (constantI S1 32 2047#32))))) (constantI S_ 1 1#1) reducesTo_S8x1290x1_S8x1290_d2 h_S_)) (Host.gather gather_S8x2048x3_S8x1290x1_S8x1290x3_2_1_0_0_1_2_113 x i) (broadcastInDim S8x1290x3 ![] bcast_S_S8x1290x3 (constant S_ .f32 0x7FC00000#32)) : FVec Ideal S8x1290x3 .f32) (ix3 b r k)
      = x (ix3 b p k) := by
  pointwise
  rw [fold_one, h, in_range (Nat.le_of_lt_succ p.isLt) (by decide), select_one]
  exact gather_pts x i b r k p h

/-- A gather from the selected points at an index in range reads that row. -/
theorem gather_cand {α : Type} (x : Shape.Idx S8x1290x3 → α) (i : IVec S8x1290x1 32) (b : Fin 8) (r : Fin 1290) (k : Fin 3) (p : Fin 1290)
    (h : i (ix3 b r 0) = BitVec.ofNat 32 p.val) : Host.gather gather_S8x1290x3_S8x1290x1_S8x1290x3_2_1_0_0_1_2_113 x i (ix3 b r k) = x (ix3 b p k) := by
  unfold Host.gather
  congr 1
  funext a
  refine Fin.ext ?_
  show (gather_S8x1290x3_S8x1290x1_S8x1290x3_2_1_0_0_1_2_113).start (ix3 b r k) i a + (gather_S8x1290x3_S8x1290x1_S8x1290x3_2_1_0_0_1_2_113).batchCoord (ix3 b r k) a + (gather_S8x1290x3_S8x1290x1_S8x1290x3_2_1_0_0_1_2_113).offCoord (ix3 b r k) a = _
  have hs : (gather_S8x1290x3_S8x1290x1_S8x1290x3_2_1_0_0_1_2_113).siIdx (ix3 b r k) ⟨0, Nat.one_pos⟩ = (ix3 b r 0) := by
    funext b
    match b with
    | ⟨0, _⟩ => rfl
    | ⟨1, _⟩ => rfl
    | ⟨2, _⟩ => rfl
  have h1 : (gather_S8x1290x3_S8x1290x1_S8x1290x3_2_1_0_0_1_2_113).start (ix3 b r k) i 1 = p.val :=
    (congrArg (fun w : BitVec 32 => min w.toInt.toNat 1289) ((congrArg i hs).trans h)).trans (clamp_small (Nat.le_of_lt_succ p.isLt) (by decide))
  match a with
  | ⟨0, _⟩ => exact Nat.zero_add _
  | ⟨1, _⟩ => exact h1
  | ⟨2, _⟩ => exact Nat.zero_add _
/-- The reference's guarded gather from the selected points: at an index in range it reads that row, and the guard passes. -/
theorem take_cand (x : FVec Ideal S8x1290x3 .f32) (i : IVec S8x1290x1 32) (b : Fin 8) (r : Fin 1290) (k : Fin 3) (p : Fin 1290) (h : i (ix3 b r 0) = BitVec.ofNat 32 p.val) :
    (select (broadcastInDim S8x1290x3 ![0, 1] bcast_S8x1290_S8x1290x3_0_1 (Host.reduce IntOp.andi (andi (cmpi .sge i (broadcastInDim S8x1290x1 ![] bcast_S_S8x1290x1 (constantI S_ 32 0#32))) (cmpi .sle i (broadcastInDim S8x1290x1 ![0, 1, 2] bcast_S1x1x1_S8x1290x1_0_1_2 (broadcastInDim S1x1x1 ![2] bcast_S1_S1x1x1_2 (constantI S1 32 1289#32))))) (constantI S_ 1 1#1) reducesTo_S8x1290x1_S8x1290_d2 h_S_)) (Host.gather gather_S8x1290x3_S8x1290x1_S8x1290x3_2_1_0_0_1_2_113 x i) (broadcastInDim S8x1290x3 ![] bcast_S_S8x1290x3 (constant S_ .f32 0x7FC00000#32)) : FVec Ideal S8x1290x3 .f32) (ix3 b r k)
      = x (ix3 b p k) := by
  pointwise
  rw [fold_one, h, in_range (Nat.le_of_lt_succ p.isLt) (by decide), select_one]
  exact gather_cand x i b r k p h

/-- A gather from the selected points, the kept ones at an index in range reads that row. -/
theorem gather_kept {α : Type} (x : Shape.Idx S8x1290x3 → α) (i : IVec S8x503x1 32) (b : Fin 8) (r : Fin 503) (k : Fin 3) (p : Fin 1290)
    (h : i (ix3 b r 0) = BitVec.ofNat 32 p.val) : Host.gather gather_S8x1290x3_S8x503x1_S8x503x3_2_1_0_0_1_2_113 x i (ix3 b r k) = x (ix3 b p k) := by
  unfold Host.gather
  congr 1
  funext a
  refine Fin.ext ?_
  show (gather_S8x1290x3_S8x503x1_S8x503x3_2_1_0_0_1_2_113).start (ix3 b r k) i a + (gather_S8x1290x3_S8x503x1_S8x503x3_2_1_0_0_1_2_113).batchCoord (ix3 b r k) a + (gather_S8x1290x3_S8x503x1_S8x503x3_2_1_0_0_1_2_113).offCoord (ix3 b r k) a = _
  have hs : (gather_S8x1290x3_S8x503x1_S8x503x3_2_1_0_0_1_2_113).siIdx (ix3 b r k) ⟨0, Nat.one_pos⟩ = (ix3 b r 0) := by
    funext b
    match b with
    | ⟨0, _⟩ => rfl
    | ⟨1, _⟩ => rfl
    | ⟨2, _⟩ => rfl
  have h1 : (gather_S8x1290x3_S8x503x1_S8x503x3_2_1_0_0_1_2_113).start (ix3 b r k) i 1 = p.val :=
    (congrArg (fun w : BitVec 32 => min w.toInt.toNat 1289) ((congrArg i hs).trans h)).trans (clamp_small (Nat.le_of_lt_succ p.isLt) (by decide))
  match a with
  | ⟨0, _⟩ => exact Nat.zero_add _
  | ⟨1, _⟩ => exact h1
  | ⟨2, _⟩ => exact Nat.zero_add _
/-- The reference's guarded gather from the selected points, the kept ones: at an index in range it reads that row, and the guard passes. -/
theorem take_kept (x : FVec Ideal S8x1290x3 .f32) (i : IVec S8x503x1 32) (b : Fin 8) (r : Fin 503) (k : Fin 3) (p : Fin 1290) (h : i (ix3 b r 0) = BitVec.ofNat 32 p.val) :
    (select (broadcastInDim S8x503x3 ![0, 1] bcast_S8x503_S8x503x3_0_1 (Host.reduce IntOp.andi (andi (cmpi .sge i (broadcastInDim S8x503x1 ![] bcast_S_S8x503x1 (constantI S_ 32 0#32))) (cmpi .sle i (broadcastInDim S8x503x1 ![0, 1, 2] bcast_S1x1x1_S8x503x1_0_1_2 (broadcastInDim S1x1x1 ![2] bcast_S1_S1x1x1_2 (constantI S1 32 1289#32))))) (constantI S_ 1 1#1) reducesTo_S8x503x1_S8x503_d2 h_S_)) (Host.gather gather_S8x1290x3_S8x503x1_S8x503x3_2_1_0_0_1_2_113 x i) (broadcastInDim S8x503x3 ![] bcast_S_S8x503x3 (constant S_ .f32 0x7FC00000#32)) : FVec Ideal S8x503x3 .f32) (ix3 b r k)
      = x (ix3 b p k) := by
  pointwise
  rw [fold_one, h, in_range (Nat.le_of_lt_succ p.isLt) (by decide), select_one]
  exact gather_kept x i b r k p h

/-- A gather from the probabilities at an index in range reads that row. -/
theorem gather_val {α : Type} (x : Shape.Idx S8x1290x1 → α) (i : IVec S8x503x1 32) (b : Fin 8) (r : Fin 503) (k : Fin 1) (p : Fin 1290)
    (h : i (ix3 b r 0) = BitVec.ofNat 32 p.val) : Host.gather gather_S8x1290x1_S8x503x1_S8x503x1_2_1_0_0_1_2_111 x i (ix3 b r k) = x (ix3 b p k) := by
  unfold Host.gather
  congr 1
  funext a
  refine Fin.ext ?_
  show (gather_S8x1290x1_S8x503x1_S8x503x1_2_1_0_0_1_2_111).start (ix3 b r k) i a + (gather_S8x1290x1_S8x503x1_S8x503x1_2_1_0_0_1_2_111).batchCoord (ix3 b r k) a + (gather_S8x1290x1_S8x503x1_S8x503x1_2_1_0_0_1_2_111).offCoord (ix3 b r k) a = _
  have hs : (gather_S8x1290x1_S8x503x1_S8x503x1_2_1_0_0_1_2_111).siIdx (ix3 b r k) ⟨0, Nat.one_pos⟩ = (ix3 b r 0) := by
    funext b
    match b with
    | ⟨0, _⟩ => rfl
    | ⟨1, _⟩ => rfl
    | ⟨2, _⟩ => rfl
  have h1 : (gather_S8x1290x1_S8x503x1_S8x503x1_2_1_0_0_1_2_111).start (ix3 b r k) i 1 = p.val :=
    (congrArg (fun w : BitVec 32 => min w.toInt.toNat 1289) ((congrArg i hs).trans h)).trans (clamp_small (Nat.le_of_lt_succ p.isLt) (by decide))
  match a with
  | ⟨0, _⟩ => exact Nat.zero_add _
  | ⟨1, _⟩ => exact h1
  | ⟨2, _⟩ => exact Nat.zero_add _
/-- The reference's guarded gather from the probabilities: at an index in range it reads that row, and the guard passes. -/
theorem take_val (x : FVec Ideal S8x1290x1 .f32) (i : IVec S8x503x1 32) (b : Fin 8) (r : Fin 503) (k : Fin 1) (p : Fin 1290) (h : i (ix3 b r 0) = BitVec.ofNat 32 p.val) :
    (select (broadcastInDim S8x503x1 ![0, 1] bcast_S8x503_S8x503x1_0_1 (Host.reduce IntOp.andi (andi (cmpi .sge i (broadcastInDim S8x503x1 ![] bcast_S_S8x503x1 (constantI S_ 32 0#32))) (cmpi .sle i (broadcastInDim S8x503x1 ![0, 1, 2] bcast_S1x1x1_S8x503x1_0_1_2 (broadcastInDim S1x1x1 ![2] bcast_S1_S1x1x1_2 (constantI S1 32 1289#32))))) (constantI S_ 1 1#1) reducesTo_S8x503x1_S8x503_d2 h_S_)) (Host.gather gather_S8x1290x1_S8x503x1_S8x503x1_2_1_0_0_1_2_111 x i) (broadcastInDim S8x503x1 ![] bcast_S_S8x503x1 (constant S_ .f32 0x7FC00000#32)) : FVec Ideal S8x503x1 .f32) (ix3 b r k)
      = x (ix3 b p k) := by
  pointwise
  rw [fold_one, h, in_range (Nat.le_of_lt_succ p.isLt) (by decide), select_one]
  exact gather_val x i b r k p h

/-- A gather from the matched points at an index in range reads that row. -/
theorem gather_pair {α : Type} (x : Shape.Idx S8x1290x1x3 → α) (i : IVec S8x503x1 32) (b : Fin 8) (r : Fin 503) (k : Fin 3) (p : Fin 1290)
    (h : i (ix3 b r 0) = BitVec.ofNat 32 p.val) : Host.gather gather_S8x1290x1x3_S8x503x1_S8x503x1x3_23_1_0_0_1_2_1113 x i (ix4 b r 0 k) = x (ix4 b p 0 k) := by
  unfold Host.gather
  congr 1
  funext a
  refine Fin.ext ?_
  show (gather_S8x1290x1x3_S8x503x1_S8x503x1x3_23_1_0_0_1_2_1113).start (ix4 b r 0 k) i a + (gather_S8x1290x1x3_S8x503x1_S8x503x1x3_23_1_0_0_1_2_1113).batchCoord (ix4 b r 0 k) a + (gather_S8x1290x1x3_S8x503x1_S8x503x1x3_23_1_0_0_1_2_1113).offCoord (ix4 b r 0 k) a = _
  have hs : (gather_S8x1290x1x3_S8x503x1_S8x503x1x3_23_1_0_0_1_2_1113).siIdx (ix4 b r 0 k) ⟨0, Nat.one_pos⟩ = (ix3 b r 0) := by
    funext b
    match b with
    | ⟨0, _⟩ => rfl
    | ⟨1, _⟩ => rfl
    | ⟨2, _⟩ => rfl
  have h1 : (gather_S8x1290x1x3_S8x503x1_S8x503x1x3_23_1_0_0_1_2_1113).start (ix4 b r 0 k) i 1 = p.val :=
    (congrArg (fun w : BitVec 32 => min w.toInt.toNat 1289) ((congrArg i hs).trans h)).trans (clamp_small (Nat.le_of_lt_succ p.isLt) (by decide))
  match a with
  | ⟨0, _⟩ => exact Nat.zero_add _
  | ⟨1, _⟩ => exact h1
  | ⟨2, _⟩ => exact Nat.zero_add _
  | ⟨3, _⟩ => exact Nat.zero_add _
/-- The reference's guarded gather from the matched points: at an index in range it reads that row, and the guard passes. -/
theorem take_pair (x : FVec Ideal S8x1290x1x3 .f32) (i : IVec S8x503x1 32) (b : Fin 8) (r : Fin 503) (k : Fin 3) (p : Fin 1290) (h : i (ix3 b r 0) = BitVec.ofNat 32 p.val) :
    (select (broadcastInDim S8x503x1x3 ![0, 1] bcast_S8x503_S8x503x1x3_0_1 (Host.reduce IntOp.andi (andi (cmpi .sge i (broadcastInDim S8x503x1 ![] bcast_S_S8x503x1 (constantI S_ 32 0#32))) (cmpi .sle i (broadcastInDim S8x503x1 ![0, 1, 2] bcast_S1x1x1_S8x503x1_0_1_2 (broadcastInDim S1x1x1 ![2] bcast_S1_S1x1x1_2 (constantI S1 32 1289#32))))) (constantI S_ 1 1#1) reducesTo_S8x503x1_S8x503_d2 h_S_)) (Host.gather gather_S8x1290x1x3_S8x503x1_S8x503x1x3_23_1_0_0_1_2_1113 x i) (broadcastInDim S8x503x1x3 ![] bcast_S_S8x503x1x3 (constant S_ .f32 0x7FC00000#32)) : FVec Ideal S8x503x1x3 .f32) (ix4 b r 0 k)
      = x (ix4 b p 0 k) := by
  pointwise
  rw [fold_one, h, in_range (Nat.le_of_lt_succ p.isLt) (by decide), select_one]
  exact gather_pair x i b r k p h

end Cert.Proof.RI
-- ==== Proof.Value.Reference.lean ====
/-
  What the reference computes, read at an index: its choice of points and its two results are the specification's.
-/
module

public import proofs.«01_k».proof.Proof.Gen.ReferenceIdeal.Run
public import proofs.«01_k».proof.Proof.Value.Towers
public import proofs.«01_k».proof.Proof.Value.Gathers

@[expose] public section

set_option maxRecDepth 16384

noncomputable section

namespace Cert.Proof.RI

open Cert.ReferenceIdeal Cert.ReferenceIdeal.Gen Cert.ReferenceIdeal.Value Cert.Proof Cert.Proof.Spec
open Idealize.ShloMosaic

/-- The positions of the greatest entries of each row, in order. -/
theorem topK2_idx {B n k : ℕ} (v : (⟨2, ![B, n]⟩ : Shape).Idx → EReal) (h : (⟨2, ![B, n]⟩ : Shape).Slices (fun _ => 0) ⟨2, ![B, k]⟩)
   (hk : k ≤ n) (b : Fin B) (r : Fin k) :
    (Host.topK (s := ⟨2, ![B, n]⟩) ⟨2, ![B, k]⟩ 1 (FloatOps.cmpfTotal (F := Ideal) (φ := .f32) .gt) v h).2 (ix2 b r)
      = BitVec.ofNat 32 (pick (fun j => v (ix2 b j)) (Fin.castLE hk r)).val := by
  let j1 : (⟨2, ![B, n]⟩ : Shape).Idx := fun a => ⟨0 + (ix2 b r (a.cast h.1.symm)).val, Nat.lt_of_lt_of_le (Nat.add_lt_add_left ((ix2 b r _).isLt) _) (h.2 a)⟩
  have ha : ∀ q : Fin n, j1.along (1 : Fin 2) q = ix2 b q := fun q => by
    funext a
    match a with
    | ⟨0, _⟩ => exact Fin.ext (Nat.zero_add _)
    | ⟨1, _⟩ => rfl
  have hr : j1 1 = Fin.castLE hk r := Fin.ext (Nat.zero_add _)
  show BitVec.ofNat 32 ((j1.along (1 : Fin 2) (sortedFrom (n := n) (fun q q' => FloatOps.cmpfTotal (F := Ideal) (φ := .f32) .gt (v (j1.along (1 : Fin 2) q)) (v (j1.along (1 : Fin 2) q')) == 1#1) (j1 1))) 1).val = _
  simp only [ha, hr]
  rfl

/-- The position and the value of the greatest entry of each row. -/
theorem topK3 {B C n : ℕ} (v : (⟨3, ![B, C, n]⟩ : Shape).Idx → EReal) (h : (⟨3, ![B, C, n]⟩ : Shape).Slices (fun _ => 0) ⟨3, ![B, C, 1]⟩)
   (hk : 0 < n) (b : Fin B) (c : Fin C) :
    (Host.topK (s := ⟨3, ![B, C, n]⟩) ⟨3, ![B, C, 1]⟩ 2 (FloatOps.cmpfTotal (F := Ideal) (φ := .f32) .gt) v h).2 (ix3 b c 0)
      = BitVec.ofNat 32 (pick (fun j => v (ix3 b c j)) ⟨0, hk⟩).val
    ∧ (Host.topK (s := ⟨3, ![B, C, n]⟩) ⟨3, ![B, C, 1]⟩ 2 (FloatOps.cmpfTotal (F := Ideal) (φ := .f32) .gt) v h).1 (ix3 b c 0)
      = v (ix3 b c (pick (fun j => v (ix3 b c j)) ⟨0, hk⟩)) := by
  let j1 : (⟨3, ![B, C, n]⟩ : Shape).Idx := fun a => ⟨0 + (ix3 b c (0 : Fin 1) (a.cast h.1.symm)).val, Nat.lt_of_lt_of_le (Nat.add_lt_add_left ((ix3 b c (0 : Fin 1) _).isLt) _) (h.2 a)⟩
  have ha : ∀ q : Fin n, j1.along (2 : Fin 3) q = ix3 b c q := fun q => by
    funext a
    match a with
    | ⟨0, _⟩ => exact Fin.ext (Nat.zero_add _)
    | ⟨1, _⟩ => exact Fin.ext (Nat.zero_add _)
    | ⟨2, _⟩ => rfl
  have hr : j1 2 = (⟨0, hk⟩ : Fin n) := rfl
  constructor
  · show BitVec.ofNat 32 ((j1.along (2 : Fin 3) (sortedFrom (n := n) (fun q q' => FloatOps.cmpfTotal (F := Ideal) (φ := .f32) .gt (v (j1.along (2 : Fin 3) q)) (v (j1.along (2 : Fin 3) q')) == 1#1) (j1 2))) 2).val = _
    simp only [ha, hr]
    rfl
  · show v (j1.along (2 : Fin 3) (sortedFrom (n := n) (fun q q' => FloatOps.cmpfTotal (F := Ideal) (φ := .f32) .gt (v (j1.along (2 : Fin 3) q)) (v (j1.along (2 : Fin 3) q')) == 1#1) (j1 2))) = _
    simp only [ha, hr]
    rfl

/-- Wrapping changes no position in range. -/
theorem wrap_sel (i : IVec S8x1290x1 32) (b : Fin 8) (r : Fin 1290) (p : Fin 2048) (h : i (ix3 b r 0) = BitVec.ofNat 32 p.val) :
    (select (cmpi .slt i (broadcastInDim S8x1290x1 ![] bcast_S_S8x1290x1 (constantI S_ 32 0#32))) (addi i (broadcastInDim S8x1290x1 ![] bcast_S_S8x1290x1 (constantI S_ 32 2048#32))) i : IVec S8x1290x1 32) (ix3 b r 0) = BitVec.ofNat 32 p.val := by
  pointwise
  rw [h]
  exact wrap_small (Nat.lt_trans p.isLt (by decide)) _

/-- Wrapping changes no position in range. -/
theorem wrap_cand (i : IVec S8x1290x1 32) (b : Fin 8) (r : Fin 1290) (p : Fin 1290) (h : i (ix3 b r 0) = BitVec.ofNat 32 p.val) :
    (select (cmpi .slt i (broadcastInDim S8x1290x1 ![] bcast_S_S8x1290x1 (constantI S_ 32 0#32))) (addi i (broadcastInDim S8x1290x1 ![] bcast_S_S8x1290x1 (constantI S_ 32 1290#32))) i : IVec S8x1290x1 32) (ix3 b r 0) = BitVec.ofNat 32 p.val := by
  pointwise
  rw [h]
  exact wrap_small (Nat.lt_trans p.isLt (by decide)) _

/-- Wrapping changes no position in range. -/
theorem wrap_kept (i : IVec S8x503x1 32) (b : Fin 8) (r : Fin 503) (p : Fin 1290) (h : i (ix3 b r 0) = BitVec.ofNat 32 p.val) :
    (select (cmpi .slt i (broadcastInDim S8x503x1 ![] bcast_S_S8x503x1 (constantI S_ 32 0#32))) (addi i (broadcastInDim S8x503x1 ![] bcast_S_S8x503x1 (constantI S_ 32 1290#32))) i : IVec S8x503x1 32) (ix3 b r 0) = BitVec.ofNat 32 p.val := by
  pointwise
  rw [h]
  exact wrap_small (Nat.lt_trans p.isLt (by decide)) _

/-- Wrapping changes no position in range. -/
theorem wrap_pair (i : IVec S8x503x1x1 32) (b : Fin 8) (r : Fin 503) (p : Fin 1290) (h : i (ix4 b r 0 0) = BitVec.ofNat 32 p.val) :
    (shapeCast _ (select (cmpi .slt i (broadcastInDim S8x503x1x1 ![] bcast_S_S8x503x1x1 (constantI S_ 32 0#32))) (addi i (broadcastInDim S8x503x1x1 ![] bcast_S_S8x503x1x1 (constantI S_ 32 1290#32))) i) shapeCasts_S8x503x1x1_S8x503x1 : IVec S8x503x1 32) (ix3 b r 0) = BitVec.ofNat 32 p.val := by
  pointwise
  rw [h]
  exact wrap_small (Nat.lt_trans p.isLt (by decide)) _

/-- The selected places laid out as one column. -/
theorem column_sel (i : IVec S8x1290 32) (b : Fin 8) (r : Fin 1290) : (broadcastInDim S8x1290x1 ![0, 1] bcast_S8x1290_S8x1290x1_0_1 i : IVec S8x1290x1 32) (ix3 b r 0) = i (ix2 b r) := by
  pointwise

/-- The best places laid out as one column. -/
theorem column_best (i : IVec S8x1290x1 32) (b : Fin 8) (r : Fin 1290) : (broadcastInDim S8x1290x1 ![0, 1] bcast_S8x1290_S8x1290x1_0_1 (shapeCast _ i shapeCasts_S8x1290x1_S8x1290) : IVec S8x1290x1 32) (ix3 b r 0) = i (ix3 b r 0) := by
  pointwise

/-- The kept places laid out as one column. -/
theorem column_kept (i : IVec S8x503 32) (b : Fin 8) (r : Fin 503) : (broadcastInDim S8x503x1 ![0, 1] bcast_S8x503_S8x503x1_0_1 i : IVec S8x503x1 32) (ix3 b r 0) = i (ix2 b r) := by
  pointwise

/-- The kept places laid out with two axes of length one. -/
theorem column_pair (i : IVec S8x503 32) (b : Fin 8) (r : Fin 503) : (broadcastInDim S8x503x1x1 ![0, 1] bcast_S8x503_S8x503x1x1_0_1 i : IVec S8x503x1x1 32) (ix4 b r 0 0) = i (ix2 b r) := by
  pointwise

/-- Dropping a last axis of length one. -/
theorem flat_one (E : FVec Ideal S8x1290x1 .f32) (b : Fin 8) (r : Fin 1290) :
    (shapeCast _ E shapeCasts_S8x1290x1_S8x1290 : FVec Ideal S8x1290 .f32) (ix2 b r) = E (ix3 b r 0) := by
  pointwise

variable (V0 : Valuation τ sig (Elt Ideal)) (b : Fin 8)

/-- The source embeddings of batch `b`, one row a point. -/
def X (i : Fin 2048) (k : Fin 512) : EReal := (V0 (Proc.devRef .tc main_arg0) : FVec Ideal S8x512x2048 .f32) (ix3 b k i)
/-- The target embeddings of batch `b`, one row a point. -/
def Y (i : Fin 2048) (k : Fin 512) : EReal := (V0 (Proc.devRef .tc main_arg1) : FVec Ideal S8x512x2048 .f32) (ix3 b k i)
/-- The source points of batch `b`. -/
def PX (i : Fin 2048) (c : Fin 3) : EReal := (V0 (Proc.devRef .tc main_arg2) : FVec Ideal S8x3x2048 .f32) (ix3 b c i)
/-- The target points of batch `b`. -/
def PY (i : Fin 2048) (c : Fin 3) : EReal := (V0 (Proc.devRef .tc main_arg3) : FVec Ideal S8x3x2048 .f32) (ix3 b c i)

/-- The reference's score table. -/
theorem scores_apply (i j : Fin 2048) : (res_main_v15 V0 : FVec Ideal S8x2048x2048 .f32) (ix3 b i j) = score (X V0 b) (Y V0 b) i j :=
  scores_all _ _ b i j

/-- The reference's column sums of the row-wise softmax. -/
theorem colSum_apply (j : Fin 2048) : (res_main_v27 V0 : FVec Ideal S8x2048 .f32) (ix2 b j) = colSum (X V0 b) (Y V0 b) j := by
  refine (sum_col (res_main_v22 V0) b j).trans (Finset.sum_congr rfl fun i _ => ?_)
  have he : ∀ j, (res_main_v22 V0 : FVec Ideal S8x2048x2048 .f32) (ix3 b i j)
      = Ideal.exp (score (X V0 b) (Y V0 b) i j - top fun j => score (X V0 b) (Y V0 b) i j) := fun j =>
    (exp_row (res_main_v15 V0) b i j).trans (by simp only [scores_apply])
  simp only [he]
  rfl

/-- The reference's row sums of the column-wise softmax. -/
theorem rowSum_apply (i : Fin 2048) : (res_main_v47 V0 : FVec Ideal S8x2048 .f32) (ix2 b i) = rowSum (X V0 b) (Y V0 b) i := by
  refine (sum_row (res_main_v42 V0) b i).trans (Finset.sum_congr rfl fun j _ => ?_)
  have he : ∀ i, (res_main_v42 V0 : FVec Ideal S8x2048x2048 .f32) (ix3 b i j)
      = Ideal.exp (score (X V0 b) (Y V0 b) i j - top fun i => score (X V0 b) (Y V0 b) i j) := fun i =>
    (exp_col (res_main_v15 V0) b i j).trans (by simp only [scores_apply])
  simp only [he]
  rfl

/-- The chosen target points. -/
theorem tgt_order (r : Fin 1290) :
    (res_main_indices V0 : IVec S8x1290 32) (ix2 b r) = BitVec.ofNat 32 (order (colSum (X V0 b) (Y V0 b)) r).val := by
  refine (topK2_idx (res_main_v27 V0) sliceFits_S8x2048_S8x1290 (by decide) b r).trans ?_
  rw [show (fun j => (res_main_v27 V0 : FVec Ideal S8x2048 .f32) (ix2 b j)) = colSum (X V0 b) (Y V0 b) from funext fun j => colSum_apply V0 b j]
  rfl

/-- The chosen source points. -/
theorem src_order (r : Fin 1290) :
    (res_main_indices_11 V0 : IVec S8x1290 32) (ix2 b r) = BitVec.ofNat 32 (order (rowSum (X V0 b) (Y V0 b)) r).val := by
  refine (topK2_idx (res_main_v47 V0) sliceFits_S8x2048_S8x1290 (by decide) b r).trans ?_
  rw [show (fun j => (res_main_v47 V0 : FVec Ideal S8x2048 .f32) (ix2 b j)) = rowSum (X V0 b) (Y V0 b) from funext fun j => rowSum_apply V0 b j]
  rfl

/-- The places at which the target points are gathered. -/
theorem call0_apply (r : Fin 1290) : (res_main_call0_v4 V0 : IVec S8x1290x1 32) (ix3 b r 0) = BitVec.ofNat 32 (order (colSum (X V0 b) (Y V0 b)) r).val :=
  wrap_sel (res_main_v29 V0) b r _ ((column_sel (res_main_indices V0) b r).trans (tgt_order V0 b r))

/-- The places at which the target embeddings are gathered. -/
theorem call1_apply (r : Fin 1290) : (res_main_call1_v4 V0 : IVec S8x1290x1 32) (ix3 b r 0) = BitVec.ofNat 32 (order (colSum (X V0 b) (Y V0 b)) r).val :=
  wrap_sel (res_main_v33 V0) b r _ ((column_sel (res_main_indices V0) b r).trans (tgt_order V0 b r))

/-- The places at which the source points are gathered. -/
theorem call2_apply (r : Fin 1290) : (res_main_call2_v4 V0 : IVec S8x1290x1 32) (ix3 b r 0) = BitVec.ofNat 32 (order (rowSum (X V0 b) (Y V0 b)) r).val :=
  wrap_sel (res_main_v49 V0) b r _ ((column_sel (res_main_indices_11 V0) b r).trans (src_order V0 b r))

/-- The places at which the source embeddings are gathered. -/
theorem call3_apply (r : Fin 1290) : (res_main_call3_v4 V0 : IVec S8x1290x1 32) (ix3 b r 0) = BitVec.ofNat 32 (order (rowSum (X V0 b) (Y V0 b)) r).val :=
  wrap_sel (res_main_v53 V0) b r _ ((column_sel (res_main_indices_11 V0) b r).trans (src_order V0 b r))

/-- The selected embeddings with their last two axes exchanged. -/
theorem turn_emb (T : FVec Ideal S8x1290x512 .f32) (r : Fin 1290) (k : Fin 512) : (transpose S8x512x1290 [0, 2, 1] T transposes_S8x1290x512_S8x512x1290_0_2_1 : FVec Ideal S8x512x1290 .f32) (ix3 b k r) = T (ix3 b r k) := by
  pointwise

/-- The embeddings with their last two axes exchanged. -/
theorem turn_all (A : FVec Ideal S8x512x2048 .f32) (r : Fin 2048) (k : Fin 512) :
    (transpose S8x2048x512 [0, 2, 1] A transposes_S8x512x2048_S8x2048x512_0_2_1 : FVec Ideal S8x2048x512 .f32) (ix3 b r k) = A (ix3 b k r) := by
  pointwise

/-- The points with their last two axes exchanged. -/
theorem turn_pts (A : FVec Ideal S8x3x2048 .f32) (r : Fin 2048) (k : Fin 3) :
    (transpose S8x2048x3 [0, 2, 1] A transposes_S8x3x2048_S8x2048x3_0_2_1 : FVec Ideal S8x2048x3 .f32) (ix3 b r k) = A (ix3 b k r) := by
  pointwise

/-- The chosen target points' embeddings. -/
theorem tgtEmb_apply (r : Fin 1290) (k : Fin 512) :
    (res_main_v35 V0 : FVec Ideal S8x512x1290 .f32) (ix3 b k r) = Y V0 b (order (colSum (X V0 b) (Y V0 b)) r) k :=
  (turn_emb b _ r k).trans ((take_emb _ (res_main_call1_v4 V0) b r k _ (call1_apply V0 b r)).trans (turn_all b _ _ k))

/-- The chosen source points' embeddings. -/
theorem srcEmb_apply (r : Fin 1290) (k : Fin 512) :
    (res_main_v55 V0 : FVec Ideal S8x512x1290 .f32) (ix3 b k r) = X V0 b (order (rowSum (X V0 b) (Y V0 b)) r) k :=
  (turn_emb b _ r k).trans ((take_emb _ (res_main_call3_v4 V0) b r k _ (call3_apply V0 b r)).trans (turn_all b _ _ k))

/-- The reference's second score table, of the selected points. -/
theorem sel_apply (r c : Fin 1290) : (res_main_v71 V0 : FVec Ideal S8x1290x1290 .f32) (ix3 b r c) = scores (X V0 b) (Y V0 b) r c := by
  refine (scores_sel (res_main_v55 V0) (res_main_v35 V0) b r c).trans ?_
  simp only [tgtEmb_apply, srcEmb_apply]
  rfl

/-- The chosen points' softmax. -/
theorem prob_apply (r c : Fin 1290) : (res_main_v82 V0 : FVec Ideal S8x1290x1290 .f32) (ix3 b r c) = prob (X V0 b) (Y V0 b) r c := by
  refine (quot_sel (res_main_v78 V0) b r c).trans ?_
  have he : ∀ c, (res_main_v78 V0 : FVec Ideal S8x1290x1290 .f32) (ix3 b r c)
      = Ideal.exp (scores (X V0 b) (Y V0 b) r c - top fun c => scores (X V0 b) (Y V0 b) r c) := fun c =>
    (exp_sel (res_main_v71 V0) b r c).trans (by simp only [sel_apply])
  simp only [he]
  rfl

/-- Each chosen source point's best target point. -/
theorem best_apply (r : Fin 1290) :
    (Host.topK S8x1290x1 2 (FloatOps.cmpfTotal (F := Ideal) (φ := .f32) .gt) (res_main_v82 V0 : FVec Ideal S8x1290x1290 .f32) sliceFits_S8x1290x1290_S8x1290x1).2 (ix3 b r 0)
      = BitVec.ofNat 32 (best (X V0 b) (Y V0 b) r).val := by
  refine (topK3 (res_main_v82 V0) sliceFits_S8x1290x1290_S8x1290x1 (by decide) b r).1.trans ?_
  rw [show (fun j => (res_main_v82 V0 : FVec Ideal S8x1290x1290 .f32) (ix3 b r j)) = prob (X V0 b) (Y V0 b) r from funext fun j => prob_apply V0 b r j]
  rfl

/-- Its probability. -/
theorem conf_apply (r : Fin 1290) : (res_main_values_18 V0 : FVec Ideal S8x1290x1 .f32) (ix3 b r 0) = conf (X V0 b) (Y V0 b) r := by
  refine (topK3 (res_main_v82 V0) sliceFits_S8x1290x1290_S8x1290x1 (by decide) b r).2.trans ?_
  rw [show (fun j => (res_main_v82 V0 : FVec Ideal S8x1290x1290 .f32) (ix3 b r j)) = prob (X V0 b) (Y V0 b) r from funext fun j => prob_apply V0 b r j]
  exact (prob_apply V0 b r _).trans (prob_best (X V0 b) (Y V0 b) r)

/-- The sum of the one best probability is that probability. -/
theorem total_apply (r : Fin 1290) : (res_main_v89 V0 : FVec Ideal S8x1290x1 .f32) (ix3 b r 0) = conf (X V0 b) (Y V0 b) r :=
  (sum_one (res_main_values_18 V0) b r).trans (conf_apply V0 b r)

/-- The kept source points. -/
theorem keep_apply (q : Fin 503) : (res_main_indices_22 V0 : IVec S8x503 32) (ix2 b q) = BitVec.ofNat 32 (keep (X V0 b) (Y V0 b) q).val := by
  refine (topK2_idx (res_main_v90 V0) sliceFits_S8x1290_S8x503 (by decide) b q).trans ?_
  rw [show (fun r => (res_main_v90 V0 : FVec Ideal S8x1290 .f32) (ix2 b r)) = conf (X V0 b) (Y V0 b) from
    funext fun r => (flat_one (res_main_v89 V0) b r).trans (total_apply V0 b r)]
  rfl

/-- The places at which the best targets' points are gathered. -/
theorem call4_apply (r : Fin 1290) : (res_main_call4_v4 V0 : IVec S8x1290x1 32) (ix3 b r 0) = BitVec.ofNat 32 (best (X V0 b) (Y V0 b) r).val :=
  wrap_cand (res_main_v85 V0) b r _ ((column_best _ b r).trans (best_apply V0 b r))

/-- The places at which the kept sources' matches are gathered. -/
theorem call5_apply (q : Fin 503) : (res_main_call5_v5 V0 : IVec S8x503x1 32) (ix3 b q 0) = BitVec.ofNat 32 (keep (X V0 b) (Y V0 b) q).val :=
  wrap_pair (res_main_v91 V0) b q _ ((column_pair (res_main_indices_22 V0) b q).trans (keep_apply V0 b q))

/-- The places at which the kept sources' probabilities are gathered. -/
theorem call6_apply (q : Fin 503) : (res_main_call6_v4 V0 : IVec S8x503x1 32) (ix3 b q 0) = BitVec.ofNat 32 (keep (X V0 b) (Y V0 b) q).val :=
  wrap_kept (res_main_v95 V0) b q _ ((column_kept (res_main_indices_22 V0) b q).trans (keep_apply V0 b q))

/-- The places at which the kept source points are gathered. -/
theorem call7_apply (q : Fin 503) : (res_main_call7_v4 V0 : IVec S8x503x1 32) (ix3 b q 0) = BitVec.ofNat 32 (keep (X V0 b) (Y V0 b) q).val :=
  wrap_kept (res_main_v102 V0) b q _ ((column_kept (res_main_indices_22 V0) b q).trans (keep_apply V0 b q))

/-- The chosen source points, as the reference gathers them. -/
def srcSel : FVec Ideal S8x1290x3 .f32 := (select (broadcastInDim S8x1290x3 ![0, 1] bcast_S8x1290_S8x1290x3_0_1 (Host.reduce IntOp.andi (andi (cmpi .sge (res_main_call2_v4 V0) (broadcastInDim S8x1290x1 ![] bcast_S_S8x1290x1 (constantI S_ 32 0#32))) (cmpi .sle (res_main_call2_v4 V0) (broadcastInDim S8x1290x1 ![0, 1, 2] bcast_S1x1x1_S8x1290x1_0_1_2 (broadcastInDim S1x1x1 ![2] bcast_S1_S1x1x1_2 (constantI S1 32 2047#32))))) (constantI S_ 1 1#1) reducesTo_S8x1290x1_S8x1290_d2 h_S_)) (Host.gather gather_S8x2048x3_S8x1290x1_S8x1290x3_2_1_0_0_1_2_113 (transpose S8x2048x3 [0, 2, 1] (V0 (Proc.devRef .tc main_arg2)) transposes_S8x3x2048_S8x2048x3_0_2_1) (res_main_call2_v4 V0)) (broadcastInDim S8x1290x3 ![] bcast_S_S8x1290x3 (constant S_ .f32 0x7FC00000#32)))
/-- The chosen target points, as the reference gathers them. -/
def tgtSel : FVec Ideal S8x1290x3 .f32 := (select (broadcastInDim S8x1290x3 ![0, 1] bcast_S8x1290_S8x1290x3_0_1 (Host.reduce IntOp.andi (andi (cmpi .sge (res_main_call0_v4 V0) (broadcastInDim S8x1290x1 ![] bcast_S_S8x1290x1 (constantI S_ 32 0#32))) (cmpi .sle (res_main_call0_v4 V0) (broadcastInDim S8x1290x1 ![0, 1, 2] bcast_S1x1x1_S8x1290x1_0_1_2 (broadcastInDim S1x1x1 ![2] bcast_S1_S1x1x1_2 (constantI S1 32 2047#32))))) (constantI S_ 1 1#1) reducesTo_S8x1290x1_S8x1290_d2 h_S_)) (Host.gather gather_S8x2048x3_S8x1290x1_S8x1290x3_2_1_0_0_1_2_113 (transpose S8x2048x3 [0, 2, 1] (V0 (Proc.devRef .tc main_arg3)) transposes_S8x3x2048_S8x2048x3_0_2_1) (res_main_call0_v4 V0)) (broadcastInDim S8x1290x3 ![] bcast_S_S8x1290x3 (constant S_ .f32 0x7FC00000#32)))
/-- The kept source points, as the reference gathers them. -/
def keptRows : FVec Ideal S8x503x3 .f32 := (select (broadcastInDim S8x503x3 ![0, 1] bcast_S8x503_S8x503x3_0_1 (Host.reduce IntOp.andi (andi (cmpi .sge (res_main_call7_v4 V0) (broadcastInDim S8x503x1 ![] bcast_S_S8x503x1 (constantI S_ 32 0#32))) (cmpi .sle (res_main_call7_v4 V0) (broadcastInDim S8x503x1 ![0, 1, 2] bcast_S1x1x1_S8x503x1_0_1_2 (broadcastInDim S1x1x1 ![2] bcast_S1_S1x1x1_2 (constantI S1 32 1289#32))))) (constantI S_ 1 1#1) reducesTo_S8x503x1_S8x503_d2 h_S_)) (Host.gather gather_S8x1290x3_S8x503x1_S8x503x3_2_1_0_0_1_2_113 (transpose S8x1290x3 [0, 2, 1] (transpose S8x3x1290 [0, 2, 1] (srcSel V0) transposes_S8x1290x3_S8x3x1290_0_2_1) transposes_S8x3x1290_S8x1290x3_0_2_1) (res_main_call7_v4 V0)) (broadcastInDim S8x503x3 ![] bcast_S_S8x503x3 (constant S_ .f32 0x7FC00000#32)))
/-- The chosen source points' best target points, as the reference gathers them. -/
def cand : FVec Ideal S8x1290x3 .f32 := (select (broadcastInDim S8x1290x3 ![0, 1] bcast_S8x1290_S8x1290x3_0_1 (Host.reduce IntOp.andi (andi (cmpi .sge (res_main_call4_v4 V0) (broadcastInDim S8x1290x1 ![] bcast_S_S8x1290x1 (constantI S_ 32 0#32))) (cmpi .sle (res_main_call4_v4 V0) (broadcastInDim S8x1290x1 ![0, 1, 2] bcast_S1x1x1_S8x1290x1_0_1_2 (broadcastInDim S1x1x1 ![2] bcast_S1_S1x1x1_2 (constantI S1 32 1289#32))))) (constantI S_ 1 1#1) reducesTo_S8x1290x1_S8x1290_d2 h_S_)) (Host.gather gather_S8x1290x3_S8x1290x1_S8x1290x3_2_1_0_0_1_2_113 (transpose S8x1290x3 [0, 2, 1] (transpose S8x3x1290 [0, 2, 1] (tgtSel V0) transposes_S8x1290x3_S8x3x1290_0_2_1) transposes_S8x3x1290_S8x1290x3_0_2_1) (res_main_call4_v4 V0)) (broadcastInDim S8x1290x3 ![] bcast_S_S8x1290x3 (constant S_ .f32 0x7FC00000#32)))
/-- The kept source points' best target points, as the reference gathers them. -/
def pair : FVec Ideal S8x503x1x3 .f32 := (select (broadcastInDim S8x503x1x3 ![0, 1] bcast_S8x503_S8x503x1x3_0_1 (Host.reduce IntOp.andi (andi (cmpi .sge (res_main_call5_v5 V0) (broadcastInDim S8x503x1 ![] bcast_S_S8x503x1 (constantI S_ 32 0#32))) (cmpi .sle (res_main_call5_v5 V0) (broadcastInDim S8x503x1 ![0, 1, 2] bcast_S1x1x1_S8x503x1_0_1_2 (broadcastInDim S1x1x1 ![2] bcast_S1_S1x1x1_2 (constantI S1 32 1289#32))))) (constantI S_ 1 1#1) reducesTo_S8x503x1_S8x503_d2 h_S_)) (Host.gather gather_S8x1290x1x3_S8x503x1_S8x503x1x3_23_1_0_0_1_2_1113 (shapeCast _ (cand V0) shapeCasts_S8x1290x3_S8x1290x1x3) (res_main_call5_v5 V0)) (broadcastInDim S8x503x1x3 ![] bcast_S_S8x503x1x3 (constant S_ .f32 0x7FC00000#32)))
/-- The kept source points' normalised probabilities, as the reference gathers them. -/
def share : FVec Ideal S8x503x1 .f32 := (select (broadcastInDim S8x503x1 ![0, 1] bcast_S8x503_S8x503x1_0_1 (Host.reduce IntOp.andi (andi (cmpi .sge (res_main_call6_v4 V0) (broadcastInDim S8x503x1 ![] bcast_S_S8x503x1 (constantI S_ 32 0#32))) (cmpi .sle (res_main_call6_v4 V0) (broadcastInDim S8x503x1 ![0, 1, 2] bcast_S1x1x1_S8x503x1_0_1_2 (broadcastInDim S1x1x1 ![2] bcast_S1_S1x1x1_2 (constantI S1 32 1289#32))))) (constantI S_ 1 1#1) reducesTo_S8x503x1_S8x503_d2 h_S_)) (Host.gather gather_S8x1290x1_S8x503x1_S8x503x1_2_1_0_0_1_2_111 (Host.divf (res_main_values_18 V0) (res_main_v89 V0)) (res_main_call6_v4 V0)) (broadcastInDim S8x503x1 ![] bcast_S_S8x503x1 (constant S_ .f32 0x7FC00000#32)))
/-- The reference's first result. -/
def out1 : FVec Ideal S8x3x503 .f32 := transpose S8x3x503 [0, 2, 1] (keptRows V0) transposes_S8x503x3_S8x3x503_0_2_1
/-- The reference's second result. -/
def out2 : FVec Ideal S8x3x503 .f32 := transpose S8x3x503 [0, 2, 1] (shapeCast _ (Host.dotGeneral dot_S8x503x3x1_S8x503x1x1_S8x503x3x1_3_2_2_3_01_01 none (transpose S8x503x3x1 [0, 1, 3, 2] (pair V0) transposes_S8x503x1x3_S8x503x3x1_0_1_3_2) (broadcastInDim S8x503x1x1 ![0, 1, 2] bcast_S8x503x1_S8x503x1x1_0_1_2 (share V0))) shapeCasts_S8x503x3x1_S8x503x3) transposes_S8x503x3_S8x3x503_0_2_1

/-- The selected source points, in order of their row sums. -/
theorem srcSel_apply (r : Fin 1290) (c : Fin 3) : srcSel V0 (ix3 b r c) = PX V0 b (order (rowSum (X V0 b) (Y V0 b)) r) c :=
  (take_pts _ (res_main_call2_v4 V0) b r c _ (call2_apply V0 b r)).trans (turn_pts b _ _ c)

/-- The selected target points, in order of their column sums. -/
theorem tgtSel_apply (r : Fin 1290) (c : Fin 3) : tgtSel V0 (ix3 b r c) = PY V0 b (order (colSum (X V0 b) (Y V0 b)) r) c :=
  (take_pts _ (res_main_call0_v4 V0) b r c _ (call0_apply V0 b r)).trans (turn_pts b _ _ c)

/-- Exchanging two axes twice changes nothing. -/
theorem turn_twice (A : FVec Ideal S8x1290x3 .f32) (r : Fin 1290) (c : Fin 3) :
    (transpose S8x1290x3 [0, 2, 1] (transpose S8x3x1290 [0, 2, 1] A transposes_S8x1290x3_S8x3x1290_0_2_1) transposes_S8x3x1290_S8x1290x3_0_2_1 : FVec Ideal S8x1290x3 .f32) (ix3 b r c)
      = A (ix3 b r c) := by
  pointwise

/-- The kept points with their last two axes exchanged. -/
theorem turn_out (A : FVec Ideal S8x503x3 .f32) (q : Fin 503) (c : Fin 3) :
    (transpose S8x3x503 [0, 2, 1] A transposes_S8x503x3_S8x3x503_0_2_1 : FVec Ideal S8x3x503 .f32) (ix3 b c q) = A (ix3 b q c) := by
  pointwise

/-- The last product has one term: the matched point times the probability's quotient. -/
theorem out_product (A : FVec Ideal S8x503x1x3 .f32) (W : FVec Ideal S8x503x1 .f32) (q : Fin 503) (c : Fin 3) :
    (transpose S8x3x503 [0, 2, 1] (shapeCast _ (Host.dotGeneral dot_S8x503x3x1_S8x503x1x1_S8x503x3x1_3_2_2_3_01_01 none (transpose S8x503x3x1 [0, 1, 3, 2] A transposes_S8x503x1x3_S8x503x3x1_0_1_3_2) (broadcastInDim S8x503x1x1 ![0, 1, 2] bcast_S8x503x1_S8x503x1x1_0_1_2 W)) shapeCasts_S8x503x3x1_S8x503x3) transposes_S8x503x3_S8x3x503_0_2_1 : FVec Ideal S8x3x503 .f32) (ix3 b c q)
      = A (ix4 b q 0 c) * W (ix3 b q 0) := by
  pointwise
  exact Fin.sum_univ_one _

/-- Putting in an axis of length one. -/
theorem split_one (A : FVec Ideal S8x1290x3 .f32) (r : Fin 1290) (c : Fin 3) :
    (shapeCast _ A shapeCasts_S8x1290x3_S8x1290x1x3 : FVec Ideal S8x1290x1x3 .f32) (ix4 b r 0 c) = A (ix3 b r c) := by
  pointwise

/-- The first result holds the kept source points. -/
theorem out1_apply (q : Fin 503) (c : Fin 3) : out1 V0 (ix3 b c q) = kept (X V0 b) (Y V0 b) (PX V0 b) q c :=
  (turn_out b (keptRows V0) q c).trans ((take_kept _ (res_main_call7_v4 V0) b q c _ (call7_apply V0 b q)).trans
    ((turn_twice b (srcSel V0) _ c).trans (srcSel_apply V0 b _ c)))

/-- The best target point of each selected source. -/
theorem cand_apply (r : Fin 1290) (c : Fin 3) : cand V0 (ix3 b r c) = PY V0 b (order (colSum (X V0 b) (Y V0 b)) (best (X V0 b) (Y V0 b) r)) c :=
  (take_cand _ (res_main_call4_v4 V0) b r c _ (call4_apply V0 b r)).trans ((turn_twice b (tgtSel V0) _ c).trans (tgtSel_apply V0 b _ c))

/-- The best target point of each kept source. -/
theorem pair_apply (q : Fin 503) (c : Fin 3) : pair V0 (ix4 b q 0 c) = matched (X V0 b) (Y V0 b) (PY V0 b) q c :=
  (take_pair _ (res_main_call5_v5 V0) b q c _ (call5_apply V0 b q)).trans ((split_one b (cand V0) _ c).trans (cand_apply V0 b _ c))

/-- A quotient of two columns, entry by entry. -/
theorem quotient_apply (A B : FVec Ideal S8x1290x1 .f32) (r : Fin 1290) : Host.divf A B (ix3 b r 0) = Ideal.div (A (ix3 b r 0)) (B (ix3 b r 0)) := rfl

/-- With real embeddings, each normalised probability is one. -/
theorem share_apply (hx : ∀ i k, ∃ r : ℝ, X V0 b i k = r) (hy : ∀ i k, ∃ r : ℝ, Y V0 b i k = r) (q : Fin 503) : share V0 (ix3 b q 0) = 1 := by
  refine (take_val _ (res_main_call6_v4 V0) b q 0 _ (call6_apply V0 b q)).trans ?_
  rw [quotient_apply, conf_apply, total_apply]
  exact conf_div_self _ _ hx hy _

/-- The second result holds the best target points of the kept source points, when the embeddings are real. -/
theorem out2_apply (hx : ∀ i k, ∃ r : ℝ, X V0 b i k = r) (hy : ∀ i k, ∃ r : ℝ, Y V0 b i k = r) (q : Fin 503) (c : Fin 3) :
    out2 V0 (ix3 b c q) = matched (X V0 b) (Y V0 b) (PY V0 b) q c := by
  refine (out_product b (pair V0) (share V0) q c).trans ?_
  rw [share_apply V0 b hx hy, mul_one, pair_apply]

/-- **The reference's run, with its results.** They end at `out1` and `out2` of the launch's arrays; the arguments end as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = out1 (StableHlo.launchContents m c)
      ∧ r.2.mem ((c.tc : Thread nD τ).loc main_v100) = out2 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Cert.ReferenceIdeal.Value.run (F := Ideal) m ρ)
  obtain ⟨h1, h2, h3⟩ := h c
  generalize StableHlo.launchContents m c = V at h1 h2 ⊢
  refine ⟨?_, ?_, h3⟩
  · unfold out1 keptRows srcSel; exact h1
  · unfold out2 pair share; exact h2

end Cert.Proof.RI
-- ==== Proof.Value.Equal.lean ====
/-
  The kernel's run with what its two results hold, and the two programs' results side by side.
-/
module

public import proofs.«01_k».proof.Proof.Value.Arrays
public import proofs.«01_k».proof.Proof.Value.Reference

@[expose] public section

set_option maxRecDepth 16384

noncomputable section

namespace Cert.Proof.KI

open Cert.KernelIdeal Cert.KernelIdeal.Gen Cert.Proof Cert.Proof.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The kernel's first result. -/
def got1 : Buf (Elt Ideal) ((c : Thread nD τ).loc main_v0_0) := Pipeline.afterTail₀ cfgs (dats m) 0 (V0 m) [hostOps1] c main_v0_0
/-- The kernel's second result. -/
def got2 : Buf (Elt Ideal) ((c : Thread nD τ).loc main_v0_1) := Pipeline.afterTail₀ cfgs (dats m) 0 (V0 m) [hostOps1] c main_v0_1

/-- **The run, with its results.** They end at `got1` and `got2`; the arguments end as launched. -/
theorem run_value : θ_run defs (onTc (τ := τ) (main (F := Ideal))) ⟨m, fun _ => 0, ρ⟩ (fun r => ∀ c : Dev nD,
      r.2.mem ((c.tc : Thread nD τ).loc main_v0_0) = got1 m c
      ∧ r.2.mem ((c.tc : Thread nD τ).loc main_v0_1) = got2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (h.1 c).2 main_v0_0 (Pipeline.mem_restRefs_of main_v0_0 (by decide) (by decide)),
      (h.1 c).2 main_v0_1 (Pipeline.mem_restRefs_of main_v0_1 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩) (run_main m ρ)

/-- The source embeddings of a batch, one row a point. -/
def EX (b : Fin 8) (i : Fin 2048) (k : Fin 512) : EReal := (m ((c : Thread nD τ).loc main_arg0) : FVec Ideal S8x512x2048 .f32) (ix3 b k i)
/-- The target embeddings of a batch, one row a point. -/
def EY (b : Fin 8) (i : Fin 2048) (k : Fin 512) : EReal := (m ((c : Thread nD τ).loc main_arg1) : FVec Ideal S8x512x2048 .f32) (ix3 b k i)
/-- The source points of a batch. -/
def QX (b : Fin 8) (i : Fin 2048) (k : Fin 3) : EReal := (m ((c : Thread nD τ).loc main_arg2) : FVec Ideal S8x3x2048 .f32) (ix3 b k i)
/-- The target points of a batch. -/
def QY (b : Fin 8) (i : Fin 2048) (k : Fin 3) : EReal := (m ((c : Thread nD τ).loc main_arg3) : FVec Ideal S8x3x2048 .f32) (ix3 b k i)

/-- The first block of a batch, read as rows, is its source embeddings. -/
theorem pts0 (b : Fin 8) : pts (iblk m c 0 (pointOf b) : FVec Ideal S1x2048x512 .f32) = EX m c b := funext fun i => funext fun k => block0 m c b i k
/-- The second block of a batch, read as rows, is its target embeddings. -/
theorem pts1 (b : Fin 8) : pts (iblk m c 1 (pointOf b) : FVec Ideal S1x2048x512 .f32) = EY m c b := funext fun i => funext fun k => block1 m c b i k
/-- The third block of a batch, read as rows, is its source points. -/
theorem pts2 (b : Fin 8) : pts (iblk m c 2 (pointOf b) : FVec Ideal S1x2048x3 .f32) = QX m c b := funext fun i => funext fun k => block2 m c b i k
/-- The fourth block of a batch, read as rows, is its target points. -/
theorem pts3 (b : Fin 8) : pts (iblk m c 3 (pointOf b) : FVec Ideal S1x2048x3 .f32) = QY m c b := funext fun i => funext fun k => block3 m c b i k

/-- The kernel's first result, entry by entry: the kept source points. -/
theorem got1_apply (b : Fin 8) (k : Fin 3) (q : Fin 503) :
    (got1 m c : FVec Ideal S8x3x503 .f32) (ix3 b k q) = kept (EX m c b) (EY m c b) (QX m c b) q k := by
  rw [← pts0, ← pts1, ← pts2]
  exact (tail4 m c b k q).trans (outB_apply _ _ _ q k)

/-- The kernel's second result, entry by entry: the best target point of each kept source point. -/
theorem got2_apply (b : Fin 8) (k : Fin 3) (q : Fin 503) :
    (got2 m c : FVec Ideal S8x3x503 .f32) (ix3 b k q) = matched (EX m c b) (EY m c b) (QY m c b) q k := by
  rw [← pts0, ← pts1, ← pts3]
  exact (tail5 m c b k q).trans (corrB_apply _ _ _ q k)

/-- Two results are the same once they are the same at every batch, coordinate and point. -/
theorem ext3 {A B : FVec Ideal S8x3x503 .f32} (h : ∀ (b : Fin 8) (k : Fin 3) (q : Fin 503), A (ix3 b k q) = B (ix3 b k q)) : A = B := by
  funext i
  have e : i = ix3 (i 0) (i 1) (i 2) := by
    funext a
    match a with
    | ⟨0, _⟩ => rfl
    | ⟨1, _⟩ => rfl
    | ⟨2, _⟩ => rfl
  rw [e]
  exact h (i 0) (i 1) (i 2)

/-- The first results agree where the two programs' arguments do. -/
theorem same1 (W : Valuation Cert.ReferenceIdeal.τ Cert.ReferenceIdeal.sig (Elt Ideal))
    (h0 : ∀ b, RI.X W b = EX m c b) (h1 : ∀ b, RI.Y W b = EY m c b) (h2 : ∀ b, RI.PX W b = QX m c b) :
    (RI.out1 W : FVec Ideal S8x3x503 .f32) = (got1 m c : FVec Ideal S8x3x503 .f32) := by
  refine ext3 fun b k q => (RI.out1_apply W b q k).trans ?_
  rw [h0, h1, h2]
  exact (got1_apply m c b k q).symm

/-- The second results agree where the two programs' arguments do and the embeddings are real. -/
theorem same2 (W : Valuation Cert.ReferenceIdeal.τ Cert.ReferenceIdeal.sig (Elt Ideal))
    (h0 : ∀ b, RI.X W b = EX m c b) (h1 : ∀ b, RI.Y W b = EY m c b) (h3 : ∀ b, RI.PY W b = QY m c b)
    (hx : ∀ b i k, ∃ r : ℝ, EX m c b i k = r) (hy : ∀ b i k, ∃ r : ℝ, EY m c b i k = r) :
    (RI.out2 W : FVec Ideal S8x3x503 .f32) = (got2 m c : FVec Ideal S8x3x503 .f32) := by
  refine ext3 fun b k q => (RI.out2_apply W b (by rw [h0]; exact hx b) (by rw [h1]; exact hy b) q k).trans ?_
  rw [h0, h1, h3]
  exact (got2_apply m c b k q).symm

end Cert.Proof.KI

end
-- ==== Proof.Value.Finite.lean ====
/-
  What the precondition says of the embeddings: every entry is a real number.
-/
module

public import proofs.«01_k».proof.Pre_finite_embeddings
public import proofs.«01_k».proof.Proof.Value.Words

@[expose] public section

noncomputable section

namespace Cert.Proof.Finite

open Cert.Proof Cert.Proof.Spec Cert.Pre_finite_embeddings
open Idealize.ShloMosaic

/-- The side condition of the precondition's broadcasts. -/
instance facts : Facts := ⟨by decide⟩

/-- The word of plus infinity stands for the top of the extended reals. -/
theorem pinf_eq : Ideal.ofBits .f32 0x7F800000#32 = ⊤ := by
  simp [Ideal.ofBits, Ideal.ieee]

/-- A conjunction of bits is one only when both are. -/
theorem both {a b : BitVec 1} (h : a &&& b = 1#1) : a = 1#1 ∧ b = 1#1 := by
  revert a b; decide

/-- What lies strictly between the two infinities is a real number. -/
theorem real_of {x : EReal} (lo : FloatOps.cmpf (F := Ideal) (φ := .f32) .ogt x (⊥ : EReal) = 1#1) (hi : FloatOps.cmpf (F := Ideal) (φ := .f32) .olt x (⊤ : EReal) = 1#1) : ∃ r : ℝ, x = r := by
  have hl : x ≠ ⊥ := by
    rintro rfl
    simp [FloatOps.cmpf, Ideal.cmp] at lo
  have hh : x ≠ ⊤ := by
    rintro rfl
    simp [FloatOps.cmpf, Ideal.cmp] at hi
  exact ⟨x.toReal, (EReal.coe_toReal hh hl).symm⟩

/-- Under the precondition both embeddings hold real numbers. -/
theorem reals (A B : FVec Ideal S8x512x2048 .f32) (C D : FVec Ideal S8x3x2048 .f32)
    (h : Cert.Pre_finite_embeddings.fn (F := Ideal) A B C D = fun _ => 1#1) (i : S8x512x2048.Idx) :
    (∃ r : ℝ, A i = r) ∧ ∃ r : ℝ, B i = r := by
  have e := congrFun h i
  have e' : ((FloatOps.cmpf (F := Ideal) (φ := .f32) .ogt (A i) (Ideal.ofBits .f32 0xFF800000#32) &&& FloatOps.cmpf (F := Ideal) (φ := .f32) .olt (A i) (Ideal.ofBits .f32 0x7F800000#32))
      &&& FloatOps.cmpf (F := Ideal) (φ := .f32) .ogt (B i) (Ideal.ofBits .f32 0xFF800000#32)) &&& FloatOps.cmpf (F := Ideal) (φ := .f32) .olt (B i) (Ideal.ofBits .f32 0x7F800000#32) = 1#1 := e
  rw [ninf_eq, pinf_eq] at e'
  obtain ⟨e1, h4⟩ := both e'
  obtain ⟨e2, h3⟩ := both e1
  obtain ⟨h1, h2⟩ := both e2
  exact ⟨real_of h1 h2, real_of h3 h4⟩

end Cert.Proof.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Dats
public import proofs.«01_k».proof.Proof.Twin.Dats
public import proofs.«01_k».proof.Proof.Value.Equal
public import proofs.«01_k».proof.Proof.Value.Finite
public import Idealize.ShloMosaic.Adequacy
public import Idealize.ShloMosaic.Init

@[expose] public section

noncomputable section

namespace Cert.Proof

open Idealize.ShloMosaic Idealize.SL.Sem

/-- The kernel at device floats: arguments unchanged, every counter at zero. -/
theorem frame_Kernel : Cert.quiescent_Kernel (hKernel := Cert.Kernel.Gen.facts) := fun m g _ => K.run_frame (F := Bits) m g

/-- The idealized kernel: arguments unchanged, every counter at zero. -/
theorem frame_KernelIdeal : Cert.quiescent_KernelIdeal (hKernelIdeal := Cert.KernelIdeal.Gen.facts) := fun m g _ => KI.run_frame (F := Ideal) m g

/-- The idealized kernel's frame where the embeddings are finite: the frame without the precondition. -/
theorem frame_KernelIdeal_finite : Cert.quiescent_KernelIdeal_pre_finite_embeddings (hKernelIdeal := Cert.KernelIdeal.Gen.facts) (hPre_finite_embeddings := Finite.facts) :=
  fun m g _ => KI.run_frame (F := Ideal) m g

/-- The idealized reference: arguments unchanged, every counter at zero. -/
theorem frame_ReferenceIdeal : Cert.quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩)
    (Cert.ReferenceIdeal.Value.run (F := Ideal) m g)

/-- The idealized reference's frame where the embeddings are finite: the frame without the precondition. -/
theorem frame_ReferenceIdeal_finite : Cert.quiescent_ReferenceIdeal_pre_finite_embeddings (hReferenceIdeal := Cert.ReferenceIdeal.Gen.facts) (hPre_finite_embeddings := Finite.facts) :=
  fun m g _ => frame_ReferenceIdeal m g trivial

/-- The named constant is the mask, `⊥` over the extended reals. -/
theorem preserves : Cert.preserves_Kernel_KernelIdeal := IdealRules.named_const.statement _ _ _ _ _ rfl

section Algebraic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The precondition makes every entry of the source embeddings a real number. -/
theorem real_source (h : Cert.Pre_KernelIdeal_finite_embeddings (hPre_finite_embeddings := Finite.facts) m) (b : Fin 8) (i : Fin 2048) (k : Fin 512) :
    ∃ r : ℝ, KI.EX m c b i k = r :=
  (Finite.reals _ _ _ _ (h c) (ix3 b k i)).1

/-- The precondition makes every entry of the target embeddings a real number. -/
theorem real_target (h : Cert.Pre_KernelIdeal_finite_embeddings (hPre_finite_embeddings := Finite.facts) m) (b : Fin 8) (i : Fin 2048) (k : Fin 512) :
    ∃ r : ℝ, KI.EY m c b i k = r :=
  (Finite.reals _ _ _ _ (h c) (ix3 b k i)).2

end Algebraic

/-- **The value.** On the same arguments with finite embeddings, the idealized kernel and the idealized reference end with
the same two results. -/
theorem algebraic : Cert.algebraic_KernelIdeal_ReferenceIdeal_pre_finite_embeddings (hKernelIdeal := Cert.KernelIdeal.Gen.facts)
    (hReferenceIdeal := Cert.ReferenceIdeal.Gen.facts) (hPre_finite_embeddings := Finite.facts) := by
  intro m g m' g' hpre hargs
  have hX : ∀ c b, RI.X (StableHlo.launchContents m' c) b = KI.EX m c b := fun c b => funext fun i => funext fun k => congrFun (hargs c).1 (ix3 b k i)
  have hY : ∀ c b, RI.Y (StableHlo.launchContents m' c) b = KI.EY m c b := fun c b => funext fun i => funext fun k => congrFun (hargs c).2.1 (ix3 b k i)
  have hPX : ∀ c b, RI.PX (StableHlo.launchContents m' c) b = KI.QX m c b := fun c b => funext fun i => funext fun k => congrFun (hargs c).2.2.1 (ix3 b k i)
  have hPY : ∀ c b, RI.PY (StableHlo.launchContents m' c) b = KI.QY m c b := fun c b => funext fun i => funext fun k => congrFun (hargs c).2.2.2 (ix3 b k i)
  refine ⟨KI.got1 m, KI.got2 m, KI.run_value m g, ?_⟩
  refine (θ_run _ _ _).mono (fun r h c => ⟨(h c).1.trans ?_, (h c).2.1.trans ?_, (h c).2.2⟩) (RI.run_value m' g')
  · exact KI.same1 m c (StableHlo.launchContents m' c) (hX c) (hY c) (hPX c)
  · exact KI.same2 m c (StableHlo.launchContents m' c) (hX c) (hY c) (hPY c) (real_source m c hpre) (real_target m c hpre)

/-- Everything claimed. -/
theorem claim : Cert.Claim := ⟨Cert.Kernel.Gen.facts, Cert.KernelIdeal.Gen.facts, Cert.ReferenceIdeal.Gen.facts, Finite.facts,
  frame_Kernel, frame_KernelIdeal, frame_KernelIdeal_finite, frame_ReferenceIdeal, frame_ReferenceIdeal_finite, preserves, algebraic⟩

end Cert.Proof

end
